-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 1024, 16, 128]⟩ ⟨4, ![4, 1024, 32, 128]⟩ (Layout.meshBlock [2, 2, 2] ![[], [], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 4096]⟩ ⟨2, ![4096, 4096]⟩ (Layout.meshBlock [2, 2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨3, ![4, 512, 4096]⟩ ⟨3, ![4, 1024, 4096]⟩ (Layout.meshBlock [2, 2, 2] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x16x128 : Shape := ⟨4, ![4, 1024, 16, 128]⟩
abbrev S2048x4096 : Shape := ⟨2, ![2048, 4096]⟩
abbrev S8x512x16x128 : Shape := ⟨4, ![8, 512, 16, 128]⟩
abbrev S4x512x4096 : Shape := ⟨3, ![4, 512, 4096]⟩
abbrev S256x2048 : Shape := ⟨2, ![256, 2048]⟩
abbrev S4x256x4096 : Shape := ⟨3, ![4, 256, 4096]⟩
abbrev S8x256x4096 : Shape := ⟨3, ![8, 256, 4096]⟩
abbrev S256x4096 : Shape := ⟨2, ![256, 4096]⟩
abbrev S_ : Shape := ⟨0, ![]⟩
abbrev S10 : Shape := ⟨1, ![10]⟩
abbrev S128x128 : Shape := ⟨2, ![128, 128]⟩
abbrev S1x128x1x128 : Shape := ⟨4, ![1, 128, 1, 128]⟩
abbrev S128x2048 : Shape := ⟨2, ![128, 2048]⟩
abbrev S128x4096 : Shape := ⟨2, ![128, 4096]⟩
abbrev S1x128x4096 : Shape := ⟨3, ![1, 128, 4096]⟩
abbrev S1 : Shape := ⟨1, ![1]⟩
abbrev S256x128 : Shape := ⟨2, ![256, 128]⟩
abbrev S1x256x1x128 : Shape := ⟨4, ![1, 256, 1, 128]⟩
abbrev S1x256x4096 : Shape := ⟨3, ![1, 256, 4096]⟩

abbrev nBuf : Space → Nat
  | .hbm => 5
  | .vmem => 6
  | .smem => 0
  | _ => 0

abbrev bufTy : (tb : Table) → Fin (tcTables nBuf tb) → BufTy
  | .hbm, ⟨0, _⟩ => ⟨S4x1024x16x128, .f32⟩
  | .hbm, ⟨1, _⟩ => ⟨S2048x4096, .f32⟩
  | .hbm, ⟨2, _⟩ => ⟨S2048x4096, .bf16⟩
  | .hbm, ⟨3, _⟩ => ⟨S8x512x16x128, .f32⟩
  | .hbm, ⟨4, _⟩ => ⟨S4x512x4096, .f32⟩
  | .local _ .vmem, ⟨0, _⟩ => ⟨S2048x4096, .bf16⟩
  | .local _ .vmem, ⟨1, _⟩ => ⟨S256x2048, .f32⟩
  | .local _ .vmem, ⟨2, _⟩ => ⟨S256x2048, .bf16⟩
  | .local _ .vmem, ⟨3, _⟩ => ⟨S4x256x4096, .bf16⟩
  | .local _ .vmem, ⟨4, _⟩ => ⟨S8x256x4096, .bf16⟩
  | .local _ .vmem, ⟨5, _⟩ => ⟨S256x4096, .f32⟩
  | _, _ => ⟨S4x1024x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 4 → Nat :=
  let c0_i32_10 : BitVec 32 := 0#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.addi c0_i32_10 v17
  let c0_i32_14 : BitVec 32 := 0#32
  let c0_i32_11 : BitVec 32 := 0#32
  let c0_i32_15 : BitVec 32 := 0#32
  ![v18.toNat, 0, 0, 0]
def k0_off2 (d0 : Dev nD) : Fin 4 → Nat :=
  let c0_i32_10 : BitVec 32 := 0#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.addi c0_i32_10 v17
  let c0_i32_18 : BitVec 32 := 0#32
  let c1_i32_16 : BitVec 32 := 1#32
  let c0_i32_19 : BitVec 32 := 0#32
  ![v18.toNat, 0, 1, 0]
def k0_off3 (d0 : Dev nD) : Fin 4 → Nat :=
  let c0_i32_10 : BitVec 32 := 0#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.addi c0_i32_10 v17
  let c0_i32_22 : BitVec 32 := 0#32
  let c2_i32_20 : BitVec 32 := 2#32
  let c0_i32_23 : BitVec 32 := 0#32
  ![v18.toNat, 0, 2, 0]
def k0_off4 (d0 : Dev nD) : Fin 4 → Nat :=
  let c0_i32_10 : BitVec 32 := 0#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.addi c0_i32_10 v17
  let c0_i32_25 : BitVec 32 := 0#32
  let c3_i32 : BitVec 32 := 3#32
  let c0_i32_26 : BitVec 32 := 0#32
  ![v18.toNat, 0, 3, 0]
def k0_off5 (d0 : Dev nD) : Fin 4 → Nat :=
  let c0_i32_10 : BitVec 32 := 0#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.addi c0_i32_10 v17
  let c0_i32_29 : BitVec 32 := 0#32
  let c4_i32_27 : BitVec 32 := 4#32
  let c0_i32_30 : BitVec 32 := 0#32
  ![v18.toNat, 0, 4, 0]
def k0_off6 (d0 : Dev nD) : Fin 4 → Nat :=
  let c0_i32_10 : BitVec 32 := 0#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.addi c0_i32_10 v17
  let c0_i32_32 : BitVec 32 := 0#32
  let c5_i32 : BitVec 32 := 5#32
  let c0_i32_33 : BitVec 32 := 0#32
  ![v18.toNat, 0, 5, 0]
def k0_off7 (d0 : Dev nD) : Fin 4 → Nat :=
  let c0_i32_10 : BitVec 32 := 0#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.addi c0_i32_10 v17
  let c0_i32_35 : BitVec 32 := 0#32
  let c6_i32 : BitVec 32 := 6#32
  let c0_i32_36 : BitVec 32 := 0#32
  ![v18.toNat, 0, 6, 0]
def k0_off8 (d0 : Dev nD) : Fin 4 → Nat :=
  let c0_i32_10 : BitVec 32 := 0#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.addi c0_i32_10 v17
  let c0_i32_38 : BitVec 32 := 0#32
  let c7_i32 : BitVec 32 := 7#32
  let c0_i32_39 : BitVec 32 := 0#32
  ![v18.toNat, 0, 7, 0]
def k0_off9 (d0 : Dev nD) : Fin 4 → Nat :=
  let c0_i32_10 : BitVec 32 := 0#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.addi c0_i32_10 v17
  let c0_i32_41 : BitVec 32 := 0#32
  let c8_i32 : BitVec 32 := 8#32
  let c0_i32_42 : BitVec 32 := 0#32
  ![v18.toNat, 0, 8, 0]
def k0_off10 (d0 : Dev nD) : Fin 4 → Nat :=
  let c0_i32_10 : BitVec 32 := 0#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.addi c0_i32_10 v17
  let c0_i32_44 : BitVec 32 := 0#32
  let c9_i32 : BitVec 32 := 9#32
  let c0_i32_45 : BitVec 32 := 0#32
  ![v18.toNat, 0, 9, 0]
def k0_off11 (d0 : Dev nD) : Fin 4 → Nat :=
  let c0_i32_10 : BitVec 32 := 0#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.addi c0_i32_10 v17
  let c0_i32_47 : BitVec 32 := 0#32
  let c10_i32 : BitVec 32 := 10#32
  let c0_i32_48 : BitVec 32 := 0#32
  ![v18.toNat, 0, 10, 0]
def k0_off12 (d0 : Dev nD) : Fin 4 → Nat :=
  let c0_i32_10 : BitVec 32 := 0#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.addi c0_i32_10 v17
  let c0_i32_50 : BitVec 32 := 0#32
  let c11_i32 : BitVec 32 := 11#32
  let c0_i32_51 : BitVec 32 := 0#32
  ![v18.toNat, 0, 11, 0]
def k0_off13 (d0 : Dev nD) : Fin 4 → Nat :=
  let c0_i32_10 : BitVec 32 := 0#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.addi c0_i32_10 v17
  let c0_i32_53 : BitVec 32 := 0#32
  let c12_i32 : BitVec 32 := 12#32
  let c0_i32_54 : BitVec 32 := 0#32
  ![v18.toNat, 0, 12, 0]
def k0_off14 (d0 : Dev nD) : Fin 4 → Nat :=
  let c0_i32_10 : BitVec 32 := 0#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.addi c0_i32_10 v17
  let c0_i32_56 : BitVec 32 := 0#32
  let c13_i32 : BitVec 32 := 13#32
  let c0_i32_57 : BitVec 32 := 0#32
  ![v18.toNat, 0, 13, 0]
def k0_off15 (d0 : Dev nD) : Fin 4 → Nat :=
  let c0_i32_10 : BitVec 32 := 0#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.addi c0_i32_10 v17
  let c0_i32_59 : BitVec 32 := 0#32
  let c14_i32 : BitVec 32 := 14#32
  let c0_i32_60 : BitVec 32 := 0#32
  ![v18.toNat, 0, 14, 0]
def k0_off16 (d0 : Dev nD) : Fin 4 → Nat :=
  let c0_i32_10 : BitVec 32 := 0#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.addi c0_i32_10 v17
  let c0_i32_62 : BitVec 32 := 0#32
  let c15_i32 : BitVec 32 := 15#32
  let c0_i32_63 : BitVec 32 := 0#32
  ![v18.toNat, 0, 15, 0]
def k0_dev2 (d0 : Dev nD) : Nat :=
  let c0_i32_159 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_158 : BitVec 32 := 4#32
  let v128 : BitVec 32 := Scalar.muli v2 c4_i32_158
  let v129 : BitVec 32 := Scalar.addi c0_i32_159 v128
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_160 : BitVec 32 := 2#32
  let v130 : BitVec 32 := Scalar.muli v9 c2_i32_160
  let v131 : BitVec 32 := Scalar.addi v129 v130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161 : BitVec 32 := 1#32
  let v132 : BitVec 32 := Scalar.muli v8 c1_i32_161
  let v133 : BitVec 32 := Scalar.addi v131 v132
  v133.toNat
def k0_off17 (d0 : Dev nD) : Fin 4 → Nat :=
  let c0_i32_167 : BitVec 32 := 0#32
  let c1_i32_166 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v142 : BitVec 32 := Scalar.subi c1_i32_166 v5
  let v143 : BitVec 32 := Scalar.addi c0_i32_167 v142
  let c128_i32_171 : BitVec 32 := 128#32
  let c0_i32_168 : BitVec 32 := 0#32
  let c0_i32_172 : BitVec 32 := 0#32
  ![v143.toNat, 128, 0, 0]
def k0_off18 (d0 : Dev nD) : Fin 4 → Nat :=
  let c0_i32_167 : BitVec 32 := 0#32
  let c1_i32_166 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v142 : BitVec 32 := Scalar.subi c1_i32_166 v5
  let v143 : BitVec 32 := Scalar.addi c0_i32_167 v142
  let c128_i32_176 : BitVec 32 := 128#32
  let c1_i32_173 : BitVec 32 := 1#32
  let c0_i32_177 : BitVec 32 := 0#32
  ![v143.toNat, 128, 1, 0]
def k0_off19 (d0 : Dev nD) : Fin 4 → Nat :=
  let c0_i32_167 : BitVec 32 := 0#32
  let c1_i32_166 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v142 : BitVec 32 := Scalar.subi c1_i32_166 v5
  let v143 : BitVec 32 := Scalar.addi c0_i32_167 v142
  let c128_i32_181 : BitVec 32 := 128#32
  let c2_i32_178 : BitVec 32 := 2#32
  let c0_i32_182 : BitVec 32 := 0#32
  ![v143.toNat, 128, 2, 0]
def k0_off20 (d0 : Dev nD) : Fin 4 → Nat :=
  let c0_i32_167 : BitVec 32 := 0#32
  let c1_i32_166 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v142 : BitVec 32 := Scalar.subi c1_i32_166 v5
  let v143 : BitVec 32 := Scalar.addi c0_i32_167 v142
  let c128_i32_186 : BitVec 32 := 128#32
  let c3_i32_183 : BitVec 32 := 3#32
  let c0_i32_187 : BitVec 32 := 0#32
  ![v143.toNat, 128, 3, 0]
def k0_off21 (d0 : Dev nD) : Fin 4 → Nat :=
  let c0_i32_167 : BitVec 32 := 0#32
  let c1_i32_166 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v142 : BitVec 32 := Scalar.subi c1_i32_166 v5
  let v143 : BitVec 32 := Scalar.addi c0_i32_167 v142
  let c128_i32_191 : BitVec 32 := 128#32
  let c4_i32_188 : BitVec 32 := 4#32
  let c0_i32_192 : BitVec 32 := 0#32
  ![v143.toNat, 128, 4, 0]
def k0_off22 (d0 : Dev nD) : Fin 4 → Nat :=
  let c0_i32_167 : BitVec 32 := 0#32
  let c1_i32_166 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v142 : BitVec 32 := Scalar.subi c1_i32_166 v5
  let v143 : BitVec 32 := Scalar.addi c0_i32_167 v142
  let c128_i32_196 : BitVec 32 := 128#32
  let c5_i32_193 : BitVec 32 := 5#32
  let c0_i32_197 : BitVec 32 := 0#32
  ![v143.toNat, 128, 5, 0]
def k0_off23 (d0 : Dev nD) : Fin 4 → Nat :=
  let c0_i32_167 : BitVec 32 := 0#32
  let c1_i32_166 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v142 : BitVec 32 := Scalar.subi c1_i32_166 v5
  let v143 : BitVec 32 := Scalar.addi c0_i32_167 v142
  let c128_i32_201 : BitVec 32 := 128#32
  let c6_i32_198 : BitVec 32 := 6#32
  let c0_i32_202 : BitVec 32 := 0#32
  ![v143.toNat, 128, 6, 0]
def k0_off24 (d0 : Dev nD) : Fin 4 → Nat :=
  let c0_i32_167 : BitVec 32 := 0#32
  let c1_i32_166 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v142 : BitVec 32 := Scalar.subi c1_i32_166 v5
  let v143 : BitVec 32 := Scalar.addi c0_i32_167 v142
  let c128_i32_206 : BitVec 32 := 128#32
  let c7_i32_203 : BitVec 32 := 7#32
  let c0_i32_207 : BitVec 32 := 0#32
  ![v143.toNat, 128, 7, 0]
def k0_off25 (d0 : Dev nD) : Fin 4 → Nat :=
  let c0_i32_167 : BitVec 32 := 0#32
  let c1_i32_166 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v142 : BitVec 32 := Scalar.subi c1_i32_166 v5
  let v143 : BitVec 32 := Scalar.addi c0_i32_167 v142
  let c128_i32_211 : BitVec 32 := 128#32
  let c8_i32_208 : BitVec 32 := 8#32
  let c0_i32_212 : BitVec 32 := 0#32
  ![v143.toNat, 128, 8, 0]
def k0_off26 (d0 : Dev nD) : Fin 4 → Nat :=
  let c0_i32_167 : BitVec 32 := 0#32
  let c1_i32_166 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v142 : BitVec 32 := Scalar.subi c1_i32_166 v5
  let v143 : BitVec 32 := Scalar.addi c0_i32_167 v142
  let c128_i32_216 : BitVec 32 := 128#32
  let c9_i32_213 : BitVec 32 := 9#32
  let c0_i32_217 : BitVec 32 := 0#32
  ![v143.toNat, 128, 9, 0]
def k0_off27 (d0 : Dev nD) : Fin 4 → Nat :=
  let c0_i32_167 : BitVec 32 := 0#32
  let c1_i32_166 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v142 : BitVec 32 := Scalar.subi c1_i32_166 v5
  let v143 : BitVec 32 := Scalar.addi c0_i32_167 v142
  let c128_i32_221 : BitVec 32 := 128#32
  let c10_i32_218 : BitVec 32 := 10#32
  let c0_i32_222 : BitVec 32 := 0#32
  ![v143.toNat, 128, 10, 0]
def k0_off28 (d0 : Dev nD) : Fin 4 → Nat :=
  let c0_i32_167 : BitVec 32 := 0#32
  let c1_i32_166 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v142 : BitVec 32 := Scalar.subi c1_i32_166 v5
  let v143 : BitVec 32 := Scalar.addi c0_i32_167 v142
  let c128_i32_226 : BitVec 32 := 128#32
  let c11_i32_223 : BitVec 32 := 11#32
  let c0_i32_227 : BitVec 32 := 0#32
  ![v143.toNat, 128, 11, 0]
def k0_off29 (d0 : Dev nD) : Fin 4 → Nat :=
  let c0_i32_167 : BitVec 32 := 0#32
  let c1_i32_166 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v142 : BitVec 32 := Scalar.subi c1_i32_166 v5
  let v143 : BitVec 32 := Scalar.addi c0_i32_167 v142
  let c128_i32_231 : BitVec 32 := 128#32
  let c12_i32_228 : BitVec 32 := 12#32
  let c0_i32_232 : BitVec 32 := 0#32
  ![v143.toNat, 128, 12, 0]
def k0_off30 (d0 : Dev nD) : Fin 4 → Nat :=
  let c0_i32_167 : BitVec 32 := 0#32
  let c1_i32_166 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v142 : BitVec 32 := Scalar.subi c1_i32_166 v5
  let v143 : BitVec 32 := Scalar.addi c0_i32_167 v142
  let c128_i32_236 : BitVec 32 := 128#32
  let c13_i32_233 : BitVec 32 := 13#32
  let c0_i32_237 : BitVec 32 := 0#32
  ![v143.toNat, 128, 13, 0]
def k0_off31 (d0 : Dev nD) : Fin 4 → Nat :=
  let c0_i32_167 : BitVec 32 := 0#32
  let c1_i32_166 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v142 : BitVec 32 := Scalar.subi c1_i32_166 v5
  let v143 : BitVec 32 := Scalar.addi c0_i32_167 v142
  let c128_i32_241 : BitVec 32 := 128#32
  let c14_i32_238 : BitVec 32 := 14#32
  let c0_i32_242 : BitVec 32 := 0#32
  ![v143.toNat, 128, 14, 0]
def k0_off32 (d0 : Dev nD) : Fin 4 → Nat :=
  let c0_i32_167 : BitVec 32 := 0#32
  let c1_i32_166 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v142 : BitVec 32 := Scalar.subi c1_i32_166 v5
  let v143 : BitVec 32 := Scalar.addi c0_i32_167 v142
  let c128_i32_246 : BitVec 32 := 128#32
  let c15_i32_243 : BitVec 32 := 15#32
  let c0_i32_247 : BitVec 32 := 0#32
  ![v143.toNat, 128, 15, 0]
def k0_dev3 (d0 : Dev nD) : Nat :=
  let c0_i32_344 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_343 : BitVec 32 := 4#32
  let v253 : BitVec 32 := Scalar.muli v2 c4_i32_343
  let v254 : BitVec 32 := Scalar.addi c0_i32_344 v253
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_345 : BitVec 32 := 2#32
  let v255 : BitVec 32 := Scalar.muli v9 c2_i32_345
  let v256 : BitVec 32 := Scalar.addi v254 v255
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_346 : BitVec 32 := 1#32
  let v257 : BitVec 32 := Scalar.muli v8 c1_i32_346
  let v258 : BitVec 32 := Scalar.addi v256 v257
  v258.toNat
def k0_off33 (d0 : Dev nD) (c0_i32_352 : BitVec 32) : Fin 4 → Nat :=
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v267 : BitVec 32 := Scalar.subi c1_i32_351 v5
  let v268 : BitVec 32 := Scalar.addi c0_i32_352 v267
  let c256_i32_356 : BitVec 32 := 256#32
  let c0_i32_353 : BitVec 32 := 0#32
  let c0_i32_357 : BitVec 32 := 0#32
  ![v268.toNat, 256, 0, 0]
def k0_off34 (d0 : Dev nD) (c0_i32_352 : BitVec 32) : Fin 4 → Nat :=
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v267 : BitVec 32 := Scalar.subi c1_i32_351 v5
  let v268 : BitVec 32 := Scalar.addi c0_i32_352 v267
  let c256_i32_361 : BitVec 32 := 256#32
  let c1_i32_358 : BitVec 32 := 1#32
  let c0_i32_362 : BitVec 32 := 0#32
  ![v268.toNat, 256, 1, 0]
def k0_off35 (d0 : Dev nD) (c0_i32_352 : BitVec 32) : Fin 4 → Nat :=
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v267 : BitVec 32 := Scalar.subi c1_i32_351 v5
  let v268 : BitVec 32 := Scalar.addi c0_i32_352 v267
  let c256_i32_366 : BitVec 32 := 256#32
  let c2_i32_363 : BitVec 32 := 2#32
  let c0_i32_367 : BitVec 32 := 0#32
  ![v268.toNat, 256, 2, 0]
def k0_off36 (d0 : Dev nD) (c0_i32_352 : BitVec 32) : Fin 4 → Nat :=
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v267 : BitVec 32 := Scalar.subi c1_i32_351 v5
  let v268 : BitVec 32 := Scalar.addi c0_i32_352 v267
  let c256_i32_371 : BitVec 32 := 256#32
  let c3_i32_368 : BitVec 32 := 3#32
  let c0_i32_372 : BitVec 32 := 0#32
  ![v268.toNat, 256, 3, 0]
def k0_off37 (d0 : Dev nD) (c0_i32_352 : BitVec 32) : Fin 4 → Nat :=
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v267 : BitVec 32 := Scalar.subi c1_i32_351 v5
  let v268 : BitVec 32 := Scalar.addi c0_i32_352 v267
  let c256_i32_376 : BitVec 32 := 256#32
  let c4_i32_373 : BitVec 32 := 4#32
  let c0_i32_377 : BitVec 32 := 0#32
  ![v268.toNat, 256, 4, 0]
def k0_off38 (d0 : Dev nD) (c0_i32_352 : BitVec 32) : Fin 4 → Nat :=
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v267 : BitVec 32 := Scalar.subi c1_i32_351 v5
  let v268 : BitVec 32 := Scalar.addi c0_i32_352 v267
  let c256_i32_381 : BitVec 32 := 256#32
  let c5_i32_378 : BitVec 32 := 5#32
  let c0_i32_382 : BitVec 32 := 0#32
  ![v268.toNat, 256, 5, 0]
def k0_off39 (d0 : Dev nD) (c0_i32_352 : BitVec 32) : Fin 4 → Nat :=
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v267 : BitVec 32 := Scalar.subi c1_i32_351 v5
  let v268 : BitVec 32 := Scalar.addi c0_i32_352 v267
  let c256_i32_386 : BitVec 32 := 256#32
  let c6_i32_383 : BitVec 32 := 6#32
  let c0_i32_387 : BitVec 32 := 0#32
  ![v268.toNat, 256, 6, 0]
def k0_off40 (d0 : Dev nD) (c0_i32_352 : BitVec 32) : Fin 4 → Nat :=
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v267 : BitVec 32 := Scalar.subi c1_i32_351 v5
  let v268 : BitVec 32 := Scalar.addi c0_i32_352 v267
  let c256_i32_391 : BitVec 32 := 256#32
  let c7_i32_388 : BitVec 32 := 7#32
  let c0_i32_392 : BitVec 32 := 0#32
  ![v268.toNat, 256, 7, 0]
def k0_off41 (d0 : Dev nD) (c0_i32_352 : BitVec 32) : Fin 4 → Nat :=
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v267 : BitVec 32 := Scalar.subi c1_i32_351 v5
  let v268 : BitVec 32 := Scalar.addi c0_i32_352 v267
  let c256_i32_396 : BitVec 32 := 256#32
  let c8_i32_393 : BitVec 32 := 8#32
  let c0_i32_397 : BitVec 32 := 0#32
  ![v268.toNat, 256, 8, 0]
def k0_off42 (d0 : Dev nD) (c0_i32_352 : BitVec 32) : Fin 4 → Nat :=
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v267 : BitVec 32 := Scalar.subi c1_i32_351 v5
  let v268 : BitVec 32 := Scalar.addi c0_i32_352 v267
  let c256_i32_401 : BitVec 32 := 256#32
  let c9_i32_398 : BitVec 32 := 9#32
  let c0_i32_402 : BitVec 32 := 0#32
  ![v268.toNat, 256, 9, 0]
def k0_off43 (d0 : Dev nD) (c0_i32_352 : BitVec 32) : Fin 4 → Nat :=
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v267 : BitVec 32 := Scalar.subi c1_i32_351 v5
  let v268 : BitVec 32 := Scalar.addi c0_i32_352 v267
  let c256_i32_406 : BitVec 32 := 256#32
  let c10_i32_403 : BitVec 32 := 10#32
  let c0_i32_407 : BitVec 32 := 0#32
  ![v268.toNat, 256, 10, 0]
def k0_off44 (d0 : Dev nD) (c0_i32_352 : BitVec 32) : Fin 4 → Nat :=
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v267 : BitVec 32 := Scalar.subi c1_i32_351 v5
  let v268 : BitVec 32 := Scalar.addi c0_i32_352 v267
  let c256_i32_411 : BitVec 32 := 256#32
  let c11_i32_408 : BitVec 32 := 11#32
  let c0_i32_412 : BitVec 32 := 0#32
  ![v268.toNat, 256, 11, 0]
def k0_off45 (d0 : Dev nD) (c0_i32_352 : BitVec 32) : Fin 4 → Nat :=
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v267 : BitVec 32 := Scalar.subi c1_i32_351 v5
  let v268 : BitVec 32 := Scalar.addi c0_i32_352 v267
  let c256_i32_416 : BitVec 32 := 256#32
  let c12_i32_413 : BitVec 32 := 12#32
  let c0_i32_417 : BitVec 32 := 0#32
  ![v268.toNat, 256, 12, 0]
def k0_off46 (d0 : Dev nD) (c0_i32_352 : BitVec 32) : Fin 4 → Nat :=
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v267 : BitVec 32 := Scalar.subi c1_i32_351 v5
  let v268 : BitVec 32 := Scalar.addi c0_i32_352 v267
  let c256_i32_421 : BitVec 32 := 256#32
  let c13_i32_418 : BitVec 32 := 13#32
  let c0_i32_422 : BitVec 32 := 0#32
  ![v268.toNat, 256, 13, 0]
def k0_off47 (d0 : Dev nD) (c0_i32_352 : BitVec 32) : Fin 4 → Nat :=
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v267 : BitVec 32 := Scalar.subi c1_i32_351 v5
  let v268 : BitVec 32 := Scalar.addi c0_i32_352 v267
  let c256_i32_426 : BitVec 32 := 256#32
  let c14_i32_423 : BitVec 32 := 14#32
  let c0_i32_427 : BitVec 32 := 0#32
  ![v268.toNat, 256, 14, 0]
def k0_off48 (d0 : Dev nD) (c0_i32_352 : BitVec 32) : Fin 4 → Nat :=
  let c1_i32_351 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v267 : BitVec 32 := Scalar.subi c1_i32_351 v5
  let v268 : BitVec 32 := Scalar.addi c0_i32_352 v267
  let c256_i32_431 : BitVec 32 := 256#32
  let c15_i32_428 : BitVec 32 := 15#32
  let c0_i32_432 : BitVec 32 := 0#32
  ![v268.toNat, 256, 15, 0]
def k0_dev4 (d0 : Dev nD) : Nat :=
  let c0_i32_529 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_528 : BitVec 32 := 4#32
  let v378 : BitVec 32 := Scalar.muli v2 c4_i32_528
  let v379 : BitVec 32 := Scalar.addi c0_i32_529 v378
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_530 : BitVec 32 := 2#32
  let v380 : BitVec 32 := Scalar.muli v9 c2_i32_530
  let v381 : BitVec 32 := Scalar.addi v379 v380
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_531 : BitVec 32 := 1#32
  let v382 : BitVec 32 := Scalar.muli v8 c1_i32_531
  let v383 : BitVec 32 := Scalar.addi v381 v382
  v383.toNat
def k0_off49 (d0 : Dev nD) (c2_i32_537 : BitVec 32) : Fin 4 → Nat :=
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v392 : BitVec 32 := Scalar.subi c1_i32_536 v5
  let v393 : BitVec 32 := Scalar.addi c2_i32_537 v392
  let c0_i32_541 : BitVec 32 := 0#32
  let c0_i32_538 : BitVec 32 := 0#32
  let c0_i32_542 : BitVec 32 := 0#32
  ![v393.toNat, 0, 0, 0]
def k0_off50 (d0 : Dev nD) (c2_i32_537 : BitVec 32) : Fin 4 → Nat :=
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v392 : BitVec 32 := Scalar.subi c1_i32_536 v5
  let v393 : BitVec 32 := Scalar.addi c2_i32_537 v392
  let c0_i32_546 : BitVec 32 := 0#32
  let c1_i32_543 : BitVec 32 := 1#32
  let c0_i32_547 : BitVec 32 := 0#32
  ![v393.toNat, 0, 1, 0]
def k0_off51 (d0 : Dev nD) (c2_i32_537 : BitVec 32) : Fin 4 → Nat :=
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v392 : BitVec 32 := Scalar.subi c1_i32_536 v5
  let v393 : BitVec 32 := Scalar.addi c2_i32_537 v392
  let c0_i32_551 : BitVec 32 := 0#32
  let c2_i32_548 : BitVec 32 := 2#32
  let c0_i32_552 : BitVec 32 := 0#32
  ![v393.toNat, 0, 2, 0]
def k0_off52 (d0 : Dev nD) (c2_i32_537 : BitVec 32) : Fin 4 → Nat :=
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v392 : BitVec 32 := Scalar.subi c1_i32_536 v5
  let v393 : BitVec 32 := Scalar.addi c2_i32_537 v392
  let c0_i32_556 : BitVec 32 := 0#32
  let c3_i32_553 : BitVec 32 := 3#32
  let c0_i32_557 : BitVec 32 := 0#32
  ![v393.toNat, 0, 3, 0]
def k0_off53 (d0 : Dev nD) (c2_i32_537 : BitVec 32) : Fin 4 → Nat :=
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v392 : BitVec 32 := Scalar.subi c1_i32_536 v5
  let v393 : BitVec 32 := Scalar.addi c2_i32_537 v392
  let c0_i32_561 : BitVec 32 := 0#32
  let c4_i32_558 : BitVec 32 := 4#32
  let c0_i32_562 : BitVec 32 := 0#32
  ![v393.toNat, 0, 4, 0]
def k0_off54 (d0 : Dev nD) (c2_i32_537 : BitVec 32) : Fin 4 → Nat :=
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v392 : BitVec 32 := Scalar.subi c1_i32_536 v5
  let v393 : BitVec 32 := Scalar.addi c2_i32_537 v392
  let c0_i32_566 : BitVec 32 := 0#32
  let c5_i32_563 : BitVec 32 := 5#32
  let c0_i32_567 : BitVec 32 := 0#32
  ![v393.toNat, 0, 5, 0]
def k0_off55 (d0 : Dev nD) (c2_i32_537 : BitVec 32) : Fin 4 → Nat :=
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v392 : BitVec 32 := Scalar.subi c1_i32_536 v5
  let v393 : BitVec 32 := Scalar.addi c2_i32_537 v392
  let c0_i32_571 : BitVec 32 := 0#32
  let c6_i32_568 : BitVec 32 := 6#32
  let c0_i32_572 : BitVec 32 := 0#32
  ![v393.toNat, 0, 6, 0]
def k0_off56 (d0 : Dev nD) (c2_i32_537 : BitVec 32) : Fin 4 → Nat :=
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v392 : BitVec 32 := Scalar.subi c1_i32_536 v5
  let v393 : BitVec 32 := Scalar.addi c2_i32_537 v392
  let c0_i32_576 : BitVec 32 := 0#32
  let c7_i32_573 : BitVec 32 := 7#32
  let c0_i32_577 : BitVec 32 := 0#32
  ![v393.toNat, 0, 7, 0]
def k0_off57 (d0 : Dev nD) (c2_i32_537 : BitVec 32) : Fin 4 → Nat :=
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v392 : BitVec 32 := Scalar.subi c1_i32_536 v5
  let v393 : BitVec 32 := Scalar.addi c2_i32_537 v392
  let c0_i32_581 : BitVec 32 := 0#32
  let c8_i32_578 : BitVec 32 := 8#32
  let c0_i32_582 : BitVec 32 := 0#32
  ![v393.toNat, 0, 8, 0]
def k0_off58 (d0 : Dev nD) (c2_i32_537 : BitVec 32) : Fin 4 → Nat :=
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v392 : BitVec 32 := Scalar.subi c1_i32_536 v5
  let v393 : BitVec 32 := Scalar.addi c2_i32_537 v392
  let c0_i32_586 : BitVec 32 := 0#32
  let c9_i32_583 : BitVec 32 := 9#32
  let c0_i32_587 : BitVec 32 := 0#32
  ![v393.toNat, 0, 9, 0]
def k0_off59 (d0 : Dev nD) (c2_i32_537 : BitVec 32) : Fin 4 → Nat :=
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v392 : BitVec 32 := Scalar.subi c1_i32_536 v5
  let v393 : BitVec 32 := Scalar.addi c2_i32_537 v392
  let c0_i32_591 : BitVec 32 := 0#32
  let c10_i32_588 : BitVec 32 := 10#32
  let c0_i32_592 : BitVec 32 := 0#32
  ![v393.toNat, 0, 10, 0]
def k0_off60 (d0 : Dev nD) (c2_i32_537 : BitVec 32) : Fin 4 → Nat :=
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v392 : BitVec 32 := Scalar.subi c1_i32_536 v5
  let v393 : BitVec 32 := Scalar.addi c2_i32_537 v392
  let c0_i32_596 : BitVec 32 := 0#32
  let c11_i32_593 : BitVec 32 := 11#32
  let c0_i32_597 : BitVec 32 := 0#32
  ![v393.toNat, 0, 11, 0]
def k0_off61 (d0 : Dev nD) (c2_i32_537 : BitVec 32) : Fin 4 → Nat :=
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v392 : BitVec 32 := Scalar.subi c1_i32_536 v5
  let v393 : BitVec 32 := Scalar.addi c2_i32_537 v392
  let c0_i32_601 : BitVec 32 := 0#32
  let c12_i32_598 : BitVec 32 := 12#32
  let c0_i32_602 : BitVec 32 := 0#32
  ![v393.toNat, 0, 12, 0]
def k0_off62 (d0 : Dev nD) (c2_i32_537 : BitVec 32) : Fin 4 → Nat :=
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v392 : BitVec 32 := Scalar.subi c1_i32_536 v5
  let v393 : BitVec 32 := Scalar.addi c2_i32_537 v392
  let c0_i32_606 : BitVec 32 := 0#32
  let c13_i32_603 : BitVec 32 := 13#32
  let c0_i32_607 : BitVec 32 := 0#32
  ![v393.toNat, 0, 13, 0]
def k0_off63 (d0 : Dev nD) (c2_i32_537 : BitVec 32) : Fin 4 → Nat :=
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v392 : BitVec 32 := Scalar.subi c1_i32_536 v5
  let v393 : BitVec 32 := Scalar.addi c2_i32_537 v392
  let c0_i32_611 : BitVec 32 := 0#32
  let c14_i32_608 : BitVec 32 := 14#32
  let c0_i32_612 : BitVec 32 := 0#32
  ![v393.toNat, 0, 14, 0]
def k0_off64 (d0 : Dev nD) (c2_i32_537 : BitVec 32) : Fin 4 → Nat :=
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v392 : BitVec 32 := Scalar.subi c1_i32_536 v5
  let v393 : BitVec 32 := Scalar.addi c2_i32_537 v392
  let c0_i32_616 : BitVec 32 := 0#32
  let c15_i32_613 : BitVec 32 := 15#32
  let c0_i32_617 : BitVec 32 := 0#32
  ![v393.toNat, 0, 15, 0]
def k0_dev5 (d0 : Dev nD) : Nat :=
  let c0_i32_714 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_713 : BitVec 32 := 4#32
  let v503 : BitVec 32 := Scalar.muli v2 c4_i32_713
  let v504 : BitVec 32 := Scalar.addi c0_i32_714 v503
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_715 : BitVec 32 := 2#32
  let v505 : BitVec 32 := Scalar.muli v9 c2_i32_715
  let v506 : BitVec 32 := Scalar.addi v504 v505
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_716 : BitVec 32 := 1#32
  let v507 : BitVec 32 := Scalar.muli v8 c1_i32_716
  let v508 : BitVec 32 := Scalar.addi v506 v507
  v508.toNat
def k0_dev6 (d0 : Dev nD) : Nat :=
  let c0_i32_909 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_908 : BitVec 32 := 4#32
  let v634 : BitVec 32 := Scalar.muli v2 c4_i32_908
  let v635 : BitVec 32 := Scalar.addi c0_i32_909 v634
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_910 : BitVec 32 := 2#32
  let v636 : BitVec 32 := Scalar.muli v9 c2_i32_910
  let v637 : BitVec 32 := Scalar.addi v635 v636
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_911 : BitVec 32 := 1#32
  let v638 : BitVec 32 := Scalar.muli v8 c1_i32_911
  let v639 : BitVec 32 := Scalar.addi v637 v638
  v639.toNat
def k0_dev7 (d0 : Dev nD) : Nat :=
  let c0_i32_1104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1103 : BitVec 32 := 4#32
  let v765 : BitVec 32 := Scalar.muli v2 c4_i32_1103
  let v766 : BitVec 32 := Scalar.addi c0_i32_1104 v765
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1105 : BitVec 32 := 2#32
  let v767 : BitVec 32 := Scalar.muli v9 c2_i32_1105
  let v768 : BitVec 32 := Scalar.addi v766 v767
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1106 : BitVec 32 := 1#32
  let v769 : BitVec 32 := Scalar.muli v8 c1_i32_1106
  let v770 : BitVec 32 := Scalar.addi v768 v769
  v770.toNat
def k0_dev8 (d0 : Dev nD) : Nat :=
  let c0_i32_1299 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1298 : BitVec 32 := 4#32
  let v896 : BitVec 32 := Scalar.muli v2 c4_i32_1298
  let v897 : BitVec 32 := Scalar.addi c0_i32_1299 v896
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1300 : BitVec 32 := 2#32
  let v898 : BitVec 32 := Scalar.muli v9 c2_i32_1300
  let v899 : BitVec 32 := Scalar.addi v897 v898
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1301 : BitVec 32 := 1#32
  let v900 : BitVec 32 := Scalar.muli v8 c1_i32_1301
  let v901 : BitVec 32 := Scalar.addi v899 v900
  v901.toNat
def k0_dev9 (d0 : Dev nD) : Nat :=
  let c0_i32_1494 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1493 : BitVec 32 := 4#32
  let v1027 : BitVec 32 := Scalar.muli v2 c4_i32_1493
  let v1028 : BitVec 32 := Scalar.addi c0_i32_1494 v1027
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1495 : BitVec 32 := 2#32
  let v1029 : BitVec 32 := Scalar.muli v9 c2_i32_1495
  let v1030 : BitVec 32 := Scalar.addi v1028 v1029
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1496 : BitVec 32 := 1#32
  let v1031 : BitVec 32 := Scalar.muli v8 c1_i32_1496
  let v1032 : BitVec 32 := Scalar.addi v1030 v1031
  v1032.toNat
def k0_off65 (d0 : Dev nD) : Fin 4 → Nat :=
  let c6_i32_1502 : BitVec 32 := 6#32
  let c1_i32_1501 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1041 : BitVec 32 := Scalar.subi c1_i32_1501 v5
  let v1042 : BitVec 32 := Scalar.addi c6_i32_1502 v1041
  let c256_i32_1506 : BitVec 32 := 256#32
  let c0_i32_1503 : BitVec 32 := 0#32
  let c0_i32_1507 : BitVec 32 := 0#32
  ![v1042.toNat, 256, 0, 0]
def k0_off66 (d0 : Dev nD) : Fin 4 → Nat :=
  let c6_i32_1502 : BitVec 32 := 6#32
  let c1_i32_1501 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1041 : BitVec 32 := Scalar.subi c1_i32_1501 v5
  let v1042 : BitVec 32 := Scalar.addi c6_i32_1502 v1041
  let c256_i32_1511 : BitVec 32 := 256#32
  let c1_i32_1508 : BitVec 32 := 1#32
  let c0_i32_1512 : BitVec 32 := 0#32
  ![v1042.toNat, 256, 1, 0]
def k0_off67 (d0 : Dev nD) : Fin 4 → Nat :=
  let c6_i32_1502 : BitVec 32 := 6#32
  let c1_i32_1501 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1041 : BitVec 32 := Scalar.subi c1_i32_1501 v5
  let v1042 : BitVec 32 := Scalar.addi c6_i32_1502 v1041
  let c256_i32_1516 : BitVec 32 := 256#32
  let c2_i32_1513 : BitVec 32 := 2#32
  let c0_i32_1517 : BitVec 32 := 0#32
  ![v1042.toNat, 256, 2, 0]
def k0_off68 (d0 : Dev nD) : Fin 4 → Nat :=
  let c6_i32_1502 : BitVec 32 := 6#32
  let c1_i32_1501 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1041 : BitVec 32 := Scalar.subi c1_i32_1501 v5
  let v1042 : BitVec 32 := Scalar.addi c6_i32_1502 v1041
  let c256_i32_1521 : BitVec 32 := 256#32
  let c3_i32_1518 : BitVec 32 := 3#32
  let c0_i32_1522 : BitVec 32 := 0#32
  ![v1042.toNat, 256, 3, 0]
def k0_off69 (d0 : Dev nD) : Fin 4 → Nat :=
  let c6_i32_1502 : BitVec 32 := 6#32
  let c1_i32_1501 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1041 : BitVec 32 := Scalar.subi c1_i32_1501 v5
  let v1042 : BitVec 32 := Scalar.addi c6_i32_1502 v1041
  let c256_i32_1526 : BitVec 32 := 256#32
  let c4_i32_1523 : BitVec 32 := 4#32
  let c0_i32_1527 : BitVec 32 := 0#32
  ![v1042.toNat, 256, 4, 0]
def k0_off70 (d0 : Dev nD) : Fin 4 → Nat :=
  let c6_i32_1502 : BitVec 32 := 6#32
  let c1_i32_1501 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1041 : BitVec 32 := Scalar.subi c1_i32_1501 v5
  let v1042 : BitVec 32 := Scalar.addi c6_i32_1502 v1041
  let c256_i32_1531 : BitVec 32 := 256#32
  let c5_i32_1528 : BitVec 32 := 5#32
  let c0_i32_1532 : BitVec 32 := 0#32
  ![v1042.toNat, 256, 5, 0]
def k0_off71 (d0 : Dev nD) : Fin 4 → Nat :=
  let c6_i32_1502 : BitVec 32 := 6#32
  let c1_i32_1501 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1041 : BitVec 32 := Scalar.subi c1_i32_1501 v5
  let v1042 : BitVec 32 := Scalar.addi c6_i32_1502 v1041
  let c256_i32_1536 : BitVec 32 := 256#32
  let c6_i32_1533 : BitVec 32 := 6#32
  let c0_i32_1537 : BitVec 32 := 0#32
  ![v1042.toNat, 256, 6, 0]
def k0_off72 (d0 : Dev nD) : Fin 4 → Nat :=
  let c6_i32_1502 : BitVec 32 := 6#32
  let c1_i32_1501 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1041 : BitVec 32 := Scalar.subi c1_i32_1501 v5
  let v1042 : BitVec 32 := Scalar.addi c6_i32_1502 v1041
  let c256_i32_1541 : BitVec 32 := 256#32
  let c7_i32_1538 : BitVec 32 := 7#32
  let c0_i32_1542 : BitVec 32 := 0#32
  ![v1042.toNat, 256, 7, 0]
def k0_off73 (d0 : Dev nD) : Fin 4 → Nat :=
  let c6_i32_1502 : BitVec 32 := 6#32
  let c1_i32_1501 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1041 : BitVec 32 := Scalar.subi c1_i32_1501 v5
  let v1042 : BitVec 32 := Scalar.addi c6_i32_1502 v1041
  let c256_i32_1546 : BitVec 32 := 256#32
  let c8_i32_1543 : BitVec 32 := 8#32
  let c0_i32_1547 : BitVec 32 := 0#32
  ![v1042.toNat, 256, 8, 0]
def k0_off74 (d0 : Dev nD) : Fin 4 → Nat :=
  let c6_i32_1502 : BitVec 32 := 6#32
  let c1_i32_1501 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1041 : BitVec 32 := Scalar.subi c1_i32_1501 v5
  let v1042 : BitVec 32 := Scalar.addi c6_i32_1502 v1041
  let c256_i32_1551 : BitVec 32 := 256#32
  let c9_i32_1548 : BitVec 32 := 9#32
  let c0_i32_1552 : BitVec 32 := 0#32
  ![v1042.toNat, 256, 9, 0]
def k0_off75 (d0 : Dev nD) : Fin 4 → Nat :=
  let c6_i32_1502 : BitVec 32 := 6#32
  let c1_i32_1501 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1041 : BitVec 32 := Scalar.subi c1_i32_1501 v5
  let v1042 : BitVec 32 := Scalar.addi c6_i32_1502 v1041
  let c256_i32_1556 : BitVec 32 := 256#32
  let c10_i32_1553 : BitVec 32 := 10#32
  let c0_i32_1557 : BitVec 32 := 0#32
  ![v1042.toNat, 256, 10, 0]
def k0_off76 (d0 : Dev nD) : Fin 4 → Nat :=
  let c6_i32_1502 : BitVec 32 := 6#32
  let c1_i32_1501 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1041 : BitVec 32 := Scalar.subi c1_i32_1501 v5
  let v1042 : BitVec 32 := Scalar.addi c6_i32_1502 v1041
  let c256_i32_1561 : BitVec 32 := 256#32
  let c11_i32_1558 : BitVec 32 := 11#32
  let c0_i32_1562 : BitVec 32 := 0#32
  ![v1042.toNat, 256, 11, 0]
def k0_off77 (d0 : Dev nD) : Fin 4 → Nat :=
  let c6_i32_1502 : BitVec 32 := 6#32
  let c1_i32_1501 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1041 : BitVec 32 := Scalar.subi c1_i32_1501 v5
  let v1042 : BitVec 32 := Scalar.addi c6_i32_1502 v1041
  let c256_i32_1566 : BitVec 32 := 256#32
  let c12_i32_1563 : BitVec 32 := 12#32
  let c0_i32_1567 : BitVec 32 := 0#32
  ![v1042.toNat, 256, 12, 0]
def k0_off78 (d0 : Dev nD) : Fin 4 → Nat :=
  let c6_i32_1502 : BitVec 32 := 6#32
  let c1_i32_1501 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1041 : BitVec 32 := Scalar.subi c1_i32_1501 v5
  let v1042 : BitVec 32 := Scalar.addi c6_i32_1502 v1041
  let c256_i32_1571 : BitVec 32 := 256#32
  let c13_i32_1568 : BitVec 32 := 13#32
  let c0_i32_1572 : BitVec 32 := 0#32
  ![v1042.toNat, 256, 13, 0]
def k0_off79 (d0 : Dev nD) : Fin 4 → Nat :=
  let c6_i32_1502 : BitVec 32 := 6#32
  let c1_i32_1501 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1041 : BitVec 32 := Scalar.subi c1_i32_1501 v5
  let v1042 : BitVec 32 := Scalar.addi c6_i32_1502 v1041
  let c256_i32_1576 : BitVec 32 := 256#32
  let c14_i32_1573 : BitVec 32 := 14#32
  let c0_i32_1577 : BitVec 32 := 0#32
  ![v1042.toNat, 256, 14, 0]
def k0_off80 (d0 : Dev nD) : Fin 4 → Nat :=
  let c6_i32_1502 : BitVec 32 := 6#32
  let c1_i32_1501 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1041 : BitVec 32 := Scalar.subi c1_i32_1501 v5
  let v1042 : BitVec 32 := Scalar.addi c6_i32_1502 v1041
  let c256_i32_1581 : BitVec 32 := 256#32
  let c15_i32_1578 : BitVec 32 := 15#32
  let c0_i32_1582 : BitVec 32 := 0#32
  ![v1042.toNat, 256, 15, 0]
def k0_dev10 (d0 : Dev nD) : Nat :=
  let c0_i32_1689 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1688 : BitVec 32 := 4#32
  let v1158 : BitVec 32 := Scalar.muli v2 c4_i32_1688
  let v1159 : BitVec 32 := Scalar.addi c0_i32_1689 v1158
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1690 : BitVec 32 := 2#32
  let v1160 : BitVec 32 := Scalar.muli v9 c2_i32_1690
  let v1161 : BitVec 32 := Scalar.addi v1159 v1160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1691 : BitVec 32 := 1#32
  let v1162 : BitVec 32 := Scalar.muli v8 c1_i32_1691
  let v1163 : BitVec 32 := Scalar.addi v1161 v1162
  v1163.toNat
def k0_off81 (d0 : Dev nD) : Fin 4 → Nat :=
  let c6_i32_1697 : BitVec 32 := 6#32
  let c1_i32_1696 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1172 : BitVec 32 := Scalar.subi c1_i32_1696 v5
  let v1173 : BitVec 32 := Scalar.addi c6_i32_1697 v1172
  let c384_i32_1701 : BitVec 32 := 384#32
  let c0_i32_1698 : BitVec 32 := 0#32
  let c0_i32_1702 : BitVec 32 := 0#32
  ![v1173.toNat, 384, 0, 0]
def k0_off82 (d0 : Dev nD) : Fin 4 → Nat :=
  let c6_i32_1697 : BitVec 32 := 6#32
  let c1_i32_1696 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1172 : BitVec 32 := Scalar.subi c1_i32_1696 v5
  let v1173 : BitVec 32 := Scalar.addi c6_i32_1697 v1172
  let c384_i32_1706 : BitVec 32 := 384#32
  let c1_i32_1703 : BitVec 32 := 1#32
  let c0_i32_1707 : BitVec 32 := 0#32
  ![v1173.toNat, 384, 1, 0]
def k0_off83 (d0 : Dev nD) : Fin 4 → Nat :=
  let c6_i32_1697 : BitVec 32 := 6#32
  let c1_i32_1696 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1172 : BitVec 32 := Scalar.subi c1_i32_1696 v5
  let v1173 : BitVec 32 := Scalar.addi c6_i32_1697 v1172
  let c384_i32_1711 : BitVec 32 := 384#32
  let c2_i32_1708 : BitVec 32 := 2#32
  let c0_i32_1712 : BitVec 32 := 0#32
  ![v1173.toNat, 384, 2, 0]
def k0_off84 (d0 : Dev nD) : Fin 4 → Nat :=
  let c6_i32_1697 : BitVec 32 := 6#32
  let c1_i32_1696 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1172 : BitVec 32 := Scalar.subi c1_i32_1696 v5
  let v1173 : BitVec 32 := Scalar.addi c6_i32_1697 v1172
  let c384_i32_1716 : BitVec 32 := 384#32
  let c3_i32_1713 : BitVec 32 := 3#32
  let c0_i32_1717 : BitVec 32 := 0#32
  ![v1173.toNat, 384, 3, 0]
def k0_off85 (d0 : Dev nD) : Fin 4 → Nat :=
  let c6_i32_1697 : BitVec 32 := 6#32
  let c1_i32_1696 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1172 : BitVec 32 := Scalar.subi c1_i32_1696 v5
  let v1173 : BitVec 32 := Scalar.addi c6_i32_1697 v1172
  let c384_i32_1721 : BitVec 32 := 384#32
  let c4_i32_1718 : BitVec 32 := 4#32
  let c0_i32_1722 : BitVec 32 := 0#32
  ![v1173.toNat, 384, 4, 0]
def k0_off86 (d0 : Dev nD) : Fin 4 → Nat :=
  let c6_i32_1697 : BitVec 32 := 6#32
  let c1_i32_1696 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1172 : BitVec 32 := Scalar.subi c1_i32_1696 v5
  let v1173 : BitVec 32 := Scalar.addi c6_i32_1697 v1172
  let c384_i32_1726 : BitVec 32 := 384#32
  let c5_i32_1723 : BitVec 32 := 5#32
  let c0_i32_1727 : BitVec 32 := 0#32
  ![v1173.toNat, 384, 5, 0]
def k0_off87 (d0 : Dev nD) : Fin 4 → Nat :=
  let c6_i32_1697 : BitVec 32 := 6#32
  let c1_i32_1696 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1172 : BitVec 32 := Scalar.subi c1_i32_1696 v5
  let v1173 : BitVec 32 := Scalar.addi c6_i32_1697 v1172
  let c384_i32_1731 : BitVec 32 := 384#32
  let c6_i32_1728 : BitVec 32 := 6#32
  let c0_i32_1732 : BitVec 32 := 0#32
  ![v1173.toNat, 384, 6, 0]
def k0_off88 (d0 : Dev nD) : Fin 4 → Nat :=
  let c6_i32_1697 : BitVec 32 := 6#32
  let c1_i32_1696 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1172 : BitVec 32 := Scalar.subi c1_i32_1696 v5
  let v1173 : BitVec 32 := Scalar.addi c6_i32_1697 v1172
  let c384_i32_1736 : BitVec 32 := 384#32
  let c7_i32_1733 : BitVec 32 := 7#32
  let c0_i32_1737 : BitVec 32 := 0#32
  ![v1173.toNat, 384, 7, 0]
def k0_off89 (d0 : Dev nD) : Fin 4 → Nat :=
  let c6_i32_1697 : BitVec 32 := 6#32
  let c1_i32_1696 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1172 : BitVec 32 := Scalar.subi c1_i32_1696 v5
  let v1173 : BitVec 32 := Scalar.addi c6_i32_1697 v1172
  let c384_i32_1741 : BitVec 32 := 384#32
  let c8_i32_1738 : BitVec 32 := 8#32
  let c0_i32_1742 : BitVec 32 := 0#32
  ![v1173.toNat, 384, 8, 0]
def k0_off90 (d0 : Dev nD) : Fin 4 → Nat :=
  let c6_i32_1697 : BitVec 32 := 6#32
  let c1_i32_1696 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1172 : BitVec 32 := Scalar.subi c1_i32_1696 v5
  let v1173 : BitVec 32 := Scalar.addi c6_i32_1697 v1172
  let c384_i32_1746 : BitVec 32 := 384#32
  let c9_i32_1743 : BitVec 32 := 9#32
  let c0_i32_1747 : BitVec 32 := 0#32
  ![v1173.toNat, 384, 9, 0]
def k0_off91 (d0 : Dev nD) : Fin 4 → Nat :=
  let c6_i32_1697 : BitVec 32 := 6#32
  let c1_i32_1696 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1172 : BitVec 32 := Scalar.subi c1_i32_1696 v5
  let v1173 : BitVec 32 := Scalar.addi c6_i32_1697 v1172
  let c384_i32_1751 : BitVec 32 := 384#32
  let c10_i32_1748 : BitVec 32 := 10#32
  let c0_i32_1752 : BitVec 32 := 0#32
  ![v1173.toNat, 384, 10, 0]
def k0_off92 (d0 : Dev nD) : Fin 4 → Nat :=
  let c6_i32_1697 : BitVec 32 := 6#32
  let c1_i32_1696 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1172 : BitVec 32 := Scalar.subi c1_i32_1696 v5
  let v1173 : BitVec 32 := Scalar.addi c6_i32_1697 v1172
  let c384_i32_1756 : BitVec 32 := 384#32
  let c11_i32_1753 : BitVec 32 := 11#32
  let c0_i32_1757 : BitVec 32 := 0#32
  ![v1173.toNat, 384, 11, 0]
def k0_off93 (d0 : Dev nD) : Fin 4 → Nat :=
  let c6_i32_1697 : BitVec 32 := 6#32
  let c1_i32_1696 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1172 : BitVec 32 := Scalar.subi c1_i32_1696 v5
  let v1173 : BitVec 32 := Scalar.addi c6_i32_1697 v1172
  let c384_i32_1761 : BitVec 32 := 384#32
  let c12_i32_1758 : BitVec 32 := 12#32
  let c0_i32_1762 : BitVec 32 := 0#32
  ![v1173.toNat, 384, 12, 0]
def k0_off94 (d0 : Dev nD) : Fin 4 → Nat :=
  let c6_i32_1697 : BitVec 32 := 6#32
  let c1_i32_1696 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1172 : BitVec 32 := Scalar.subi c1_i32_1696 v5
  let v1173 : BitVec 32 := Scalar.addi c6_i32_1697 v1172
  let c384_i32_1766 : BitVec 32 := 384#32
  let c13_i32_1763 : BitVec 32 := 13#32
  let c0_i32_1767 : BitVec 32 := 0#32
  ![v1173.toNat, 384, 13, 0]
def k0_off95 (d0 : Dev nD) : Fin 4 → Nat :=
  let c6_i32_1697 : BitVec 32 := 6#32
  let c1_i32_1696 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1172 : BitVec 32 := Scalar.subi c1_i32_1696 v5
  let v1173 : BitVec 32 := Scalar.addi c6_i32_1697 v1172
  let c384_i32_1771 : BitVec 32 := 384#32
  let c14_i32_1768 : BitVec 32 := 14#32
  let c0_i32_1772 : BitVec 32 := 0#32
  ![v1173.toNat, 384, 14, 0]
def k0_off96 (d0 : Dev nD) : Fin 4 → Nat :=
  let c6_i32_1697 : BitVec 32 := 6#32
  let c1_i32_1696 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1172 : BitVec 32 := Scalar.subi c1_i32_1696 v5
  let v1173 : BitVec 32 := Scalar.addi c6_i32_1697 v1172
  let c384_i32_1776 : BitVec 32 := 384#32
  let c15_i32_1773 : BitVec 32 := 15#32
  let c0_i32_1777 : BitVec 32 := 0#32
  ![v1173.toNat, 384, 15, 0]
def k0_dev11 (d0 : Dev nD) : Nat :=
  let c0_i32_1884 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1883 : BitVec 32 := 4#32
  let v1289 : BitVec 32 := Scalar.muli v2 c4_i32_1883
  let v1290 : BitVec 32 := Scalar.addi c0_i32_1884 v1289
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1885 : BitVec 32 := 2#32
  let v1291 : BitVec 32 := Scalar.muli v9 c2_i32_1885
  let v1292 : BitVec 32 := Scalar.addi v1290 v1291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1886 : BitVec 32 := 1#32
  let v1293 : BitVec 32 := Scalar.muli v8 c1_i32_1886
  let v1294 : BitVec 32 := Scalar.addi v1292 v1293
  v1294.toNat
def k0_off97 (d0 : Dev nD) (c0_i32_1891 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1303 : BitVec 32 := Scalar.addi c0_i32_1891 v5
  let c0_i32_1895 : BitVec 32 := 0#32
  let c0_i32_1892 : BitVec 32 := 0#32
  let c0_i32_1896 : BitVec 32 := 0#32
  ![v1303.toNat, 0, 0, 0]
def k0_off98 (d0 : Dev nD) (c0_i32_1891 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1303 : BitVec 32 := Scalar.addi c0_i32_1891 v5
  let c0_i32_1900 : BitVec 32 := 0#32
  let c1_i32_1897 : BitVec 32 := 1#32
  let c0_i32_1901 : BitVec 32 := 0#32
  ![v1303.toNat, 0, 1, 0]
def k0_off99 (d0 : Dev nD) (c0_i32_1891 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1303 : BitVec 32 := Scalar.addi c0_i32_1891 v5
  let c0_i32_1905 : BitVec 32 := 0#32
  let c2_i32_1902 : BitVec 32 := 2#32
  let c0_i32_1906 : BitVec 32 := 0#32
  ![v1303.toNat, 0, 2, 0]
def k0_off100 (d0 : Dev nD) (c0_i32_1891 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1303 : BitVec 32 := Scalar.addi c0_i32_1891 v5
  let c0_i32_1910 : BitVec 32 := 0#32
  let c3_i32_1907 : BitVec 32 := 3#32
  let c0_i32_1911 : BitVec 32 := 0#32
  ![v1303.toNat, 0, 3, 0]
def k0_off101 (d0 : Dev nD) (c0_i32_1891 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1303 : BitVec 32 := Scalar.addi c0_i32_1891 v5
  let c0_i32_1915 : BitVec 32 := 0#32
  let c4_i32_1912 : BitVec 32 := 4#32
  let c0_i32_1916 : BitVec 32 := 0#32
  ![v1303.toNat, 0, 4, 0]
def k0_off102 (d0 : Dev nD) (c0_i32_1891 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1303 : BitVec 32 := Scalar.addi c0_i32_1891 v5
  let c0_i32_1920 : BitVec 32 := 0#32
  let c5_i32_1917 : BitVec 32 := 5#32
  let c0_i32_1921 : BitVec 32 := 0#32
  ![v1303.toNat, 0, 5, 0]
def k0_off103 (d0 : Dev nD) (c0_i32_1891 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1303 : BitVec 32 := Scalar.addi c0_i32_1891 v5
  let c0_i32_1925 : BitVec 32 := 0#32
  let c6_i32_1922 : BitVec 32 := 6#32
  let c0_i32_1926 : BitVec 32 := 0#32
  ![v1303.toNat, 0, 6, 0]
def k0_off104 (d0 : Dev nD) (c0_i32_1891 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1303 : BitVec 32 := Scalar.addi c0_i32_1891 v5
  let c0_i32_1930 : BitVec 32 := 0#32
  let c7_i32_1927 : BitVec 32 := 7#32
  let c0_i32_1931 : BitVec 32 := 0#32
  ![v1303.toNat, 0, 7, 0]
def k0_off105 (d0 : Dev nD) (c0_i32_1891 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1303 : BitVec 32 := Scalar.addi c0_i32_1891 v5
  let c0_i32_1935 : BitVec 32 := 0#32
  let c8_i32_1932 : BitVec 32 := 8#32
  let c0_i32_1936 : BitVec 32 := 0#32
  ![v1303.toNat, 0, 8, 0]
def k0_off106 (d0 : Dev nD) (c0_i32_1891 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1303 : BitVec 32 := Scalar.addi c0_i32_1891 v5
  let c0_i32_1940 : BitVec 32 := 0#32
  let c9_i32_1937 : BitVec 32 := 9#32
  let c0_i32_1941 : BitVec 32 := 0#32
  ![v1303.toNat, 0, 9, 0]
def k0_off107 (d0 : Dev nD) (c0_i32_1891 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1303 : BitVec 32 := Scalar.addi c0_i32_1891 v5
  let c0_i32_1945 : BitVec 32 := 0#32
  let c10_i32_1942 : BitVec 32 := 10#32
  let c0_i32_1946 : BitVec 32 := 0#32
  ![v1303.toNat, 0, 10, 0]
def k0_off108 (d0 : Dev nD) (c0_i32_1891 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1303 : BitVec 32 := Scalar.addi c0_i32_1891 v5
  let c0_i32_1950 : BitVec 32 := 0#32
  let c11_i32_1947 : BitVec 32 := 11#32
  let c0_i32_1951 : BitVec 32 := 0#32
  ![v1303.toNat, 0, 11, 0]
def k0_off109 (d0 : Dev nD) (c0_i32_1891 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1303 : BitVec 32 := Scalar.addi c0_i32_1891 v5
  let c0_i32_1955 : BitVec 32 := 0#32
  let c12_i32_1952 : BitVec 32 := 12#32
  let c0_i32_1956 : BitVec 32 := 0#32
  ![v1303.toNat, 0, 12, 0]
def k0_off110 (d0 : Dev nD) (c0_i32_1891 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1303 : BitVec 32 := Scalar.addi c0_i32_1891 v5
  let c0_i32_1960 : BitVec 32 := 0#32
  let c13_i32_1957 : BitVec 32 := 13#32
  let c0_i32_1961 : BitVec 32 := 0#32
  ![v1303.toNat, 0, 13, 0]
def k0_off111 (d0 : Dev nD) (c0_i32_1891 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1303 : BitVec 32 := Scalar.addi c0_i32_1891 v5
  let c0_i32_1965 : BitVec 32 := 0#32
  let c14_i32_1962 : BitVec 32 := 14#32
  let c0_i32_1966 : BitVec 32 := 0#32
  ![v1303.toNat, 0, 14, 0]
def k0_off112 (d0 : Dev nD) (c0_i32_1891 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1303 : BitVec 32 := Scalar.addi c0_i32_1891 v5
  let c0_i32_1970 : BitVec 32 := 0#32
  let c15_i32_1967 : BitVec 32 := 15#32
  let c0_i32_1971 : BitVec 32 := 0#32
  ![v1303.toNat, 0, 15, 0]
def k0_off113 (d0 : Dev nD) (c0_i32_2096 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1444 : BitVec 32 := Scalar.addi c0_i32_2096 v5
  let c256_i32_2100 : BitVec 32 := 256#32
  let c0_i32_2097 : BitVec 32 := 0#32
  let c0_i32_2101 : BitVec 32 := 0#32
  ![v1444.toNat, 256, 0, 0]
def k0_off114 (d0 : Dev nD) (c0_i32_2096 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1444 : BitVec 32 := Scalar.addi c0_i32_2096 v5
  let c256_i32_2105 : BitVec 32 := 256#32
  let c1_i32_2102 : BitVec 32 := 1#32
  let c0_i32_2106 : BitVec 32 := 0#32
  ![v1444.toNat, 256, 1, 0]
def k0_off115 (d0 : Dev nD) (c0_i32_2096 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1444 : BitVec 32 := Scalar.addi c0_i32_2096 v5
  let c256_i32_2110 : BitVec 32 := 256#32
  let c2_i32_2107 : BitVec 32 := 2#32
  let c0_i32_2111 : BitVec 32 := 0#32
  ![v1444.toNat, 256, 2, 0]
def k0_off116 (d0 : Dev nD) (c0_i32_2096 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1444 : BitVec 32 := Scalar.addi c0_i32_2096 v5
  let c256_i32_2115 : BitVec 32 := 256#32
  let c3_i32_2112 : BitVec 32 := 3#32
  let c0_i32_2116 : BitVec 32 := 0#32
  ![v1444.toNat, 256, 3, 0]
def k0_off117 (d0 : Dev nD) (c0_i32_2096 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1444 : BitVec 32 := Scalar.addi c0_i32_2096 v5
  let c256_i32_2120 : BitVec 32 := 256#32
  let c4_i32_2117 : BitVec 32 := 4#32
  let c0_i32_2121 : BitVec 32 := 0#32
  ![v1444.toNat, 256, 4, 0]
def k0_off118 (d0 : Dev nD) (c0_i32_2096 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1444 : BitVec 32 := Scalar.addi c0_i32_2096 v5
  let c256_i32_2125 : BitVec 32 := 256#32
  let c5_i32_2122 : BitVec 32 := 5#32
  let c0_i32_2126 : BitVec 32 := 0#32
  ![v1444.toNat, 256, 5, 0]
def k0_off119 (d0 : Dev nD) (c0_i32_2096 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1444 : BitVec 32 := Scalar.addi c0_i32_2096 v5
  let c256_i32_2130 : BitVec 32 := 256#32
  let c6_i32_2127 : BitVec 32 := 6#32
  let c0_i32_2131 : BitVec 32 := 0#32
  ![v1444.toNat, 256, 6, 0]
def k0_off120 (d0 : Dev nD) (c0_i32_2096 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1444 : BitVec 32 := Scalar.addi c0_i32_2096 v5
  let c256_i32_2135 : BitVec 32 := 256#32
  let c7_i32_2132 : BitVec 32 := 7#32
  let c0_i32_2136 : BitVec 32 := 0#32
  ![v1444.toNat, 256, 7, 0]
def k0_off121 (d0 : Dev nD) (c0_i32_2096 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1444 : BitVec 32 := Scalar.addi c0_i32_2096 v5
  let c256_i32_2140 : BitVec 32 := 256#32
  let c8_i32_2137 : BitVec 32 := 8#32
  let c0_i32_2141 : BitVec 32 := 0#32
  ![v1444.toNat, 256, 8, 0]
def k0_off122 (d0 : Dev nD) (c0_i32_2096 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1444 : BitVec 32 := Scalar.addi c0_i32_2096 v5
  let c256_i32_2145 : BitVec 32 := 256#32
  let c9_i32_2142 : BitVec 32 := 9#32
  let c0_i32_2146 : BitVec 32 := 0#32
  ![v1444.toNat, 256, 9, 0]
def k0_off123 (d0 : Dev nD) (c0_i32_2096 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1444 : BitVec 32 := Scalar.addi c0_i32_2096 v5
  let c256_i32_2150 : BitVec 32 := 256#32
  let c10_i32_2147 : BitVec 32 := 10#32
  let c0_i32_2151 : BitVec 32 := 0#32
  ![v1444.toNat, 256, 10, 0]
def k0_off124 (d0 : Dev nD) (c0_i32_2096 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1444 : BitVec 32 := Scalar.addi c0_i32_2096 v5
  let c256_i32_2155 : BitVec 32 := 256#32
  let c11_i32_2152 : BitVec 32 := 11#32
  let c0_i32_2156 : BitVec 32 := 0#32
  ![v1444.toNat, 256, 11, 0]
def k0_off125 (d0 : Dev nD) (c0_i32_2096 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1444 : BitVec 32 := Scalar.addi c0_i32_2096 v5
  let c256_i32_2160 : BitVec 32 := 256#32
  let c12_i32_2157 : BitVec 32 := 12#32
  let c0_i32_2161 : BitVec 32 := 0#32
  ![v1444.toNat, 256, 12, 0]
def k0_off126 (d0 : Dev nD) (c0_i32_2096 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1444 : BitVec 32 := Scalar.addi c0_i32_2096 v5
  let c256_i32_2165 : BitVec 32 := 256#32
  let c13_i32_2162 : BitVec 32 := 13#32
  let c0_i32_2166 : BitVec 32 := 0#32
  ![v1444.toNat, 256, 13, 0]
def k0_off127 (d0 : Dev nD) (c0_i32_2096 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1444 : BitVec 32 := Scalar.addi c0_i32_2096 v5
  let c256_i32_2170 : BitVec 32 := 256#32
  let c14_i32_2167 : BitVec 32 := 14#32
  let c0_i32_2171 : BitVec 32 := 0#32
  ![v1444.toNat, 256, 14, 0]
def k0_off128 (d0 : Dev nD) (c0_i32_2096 : BitVec 32) : Fin 4 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1444 : BitVec 32 := Scalar.addi c0_i32_2096 v5
  let c256_i32_2175 : BitVec 32 := 256#32
  let c15_i32_2172 : BitVec 32 := 15#32
  let c0_i32_2176 : BitVec 32 := 0#32
  ![v1444.toNat, 256, 15, 0]
def k0_dev12 (d0 : Dev nD) : Nat :=
  let c0_i32_3511 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3510 : BitVec 32 := 4#32
  let v2400 : BitVec 32 := Scalar.muli v2 c4_i32_3510
  let v2401 : BitVec 32 := Scalar.addi c0_i32_3511 v2400
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_3512 : BitVec 32 := 2#32
  let v2402 : BitVec 32 := Scalar.muli v9 c2_i32_3512
  let v2403 : BitVec 32 := Scalar.addi v2401 v2402
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3513 : BitVec 32 := 1#32
  let v2404 : BitVec 32 := Scalar.muli v8 c1_i32_3513
  let v2405 : BitVec 32 := Scalar.addi v2403 v2404
  v2405.toNat
abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x1024x32x128 : Shape := ⟨4, ![4, 1024, 32, 128]⟩
abbrev S4096x4096 : Shape := ⟨2, ![4096, 4096]⟩
abbrev S4x1024x4096 : Shape := ⟨3, ![4, 1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x32x128, .f32⟩
  | .hbm, ⟨1, _⟩ => ⟨S4096x4096, .f32⟩
  | .hbm, ⟨2, _⟩ => ⟨S4x1024x4096, .f32⟩
  | .hbm, ⟨3, _⟩ => ⟨S4x1024x4096, .f32⟩
  | _, _ => ⟨S4x1024x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Same.lean ====
/-
  The kernel as printed and the kernel read over the extended reals are one text: their body tables are equal.
-/
module

public import proofs.«01_k».proof.Proof.Gen.Kernel
public import proofs.«01_k».proof.Proof.Gen.KernelIdeal

@[expose] public section

namespace Cert.Same

open Idealize.ShloMosaic

variable {F : FTy → Type} [FloatOps F]

/-- The one body, label by label. -/
theorem bodies : Cert.Kernel.defs₀ (F := F) = Cert.KernelIdeal.defs₀ (F := F) := by
  refine congrArg Defs.onTc (funext fun l => funext fun x => ?_)
  match l, x with
  | 0, (_, _) => rfl

/-- The tables of bodies. -/
theorem tables : Cert.Kernel.defs (F := F) = Cert.KernelIdeal.defs (F := F) :=
  congrArg (Pipeline.defs (Cert.KernelIdeal.pcfgs (F := F))) bodies

end Cert.Same

end
-- ==== Proof.Body.lean ====
/-
  The kernel's body, written once more as a short structured program: how a chunk of rows is loaded
  (`loadChunk`), multiplied (`product`), pushed to the peer (`piece`) and finished with what the
  peer pushed (`finish`, `finishHalf`), and that the printed body is this program (`body_eq`).
-/
module

public import proofs.«01_k».proof.Proof.Gen.KernelIdeal

@[expose] public section

noncomputable section

namespace Cert.KernelIdeal

open Idealize.ShloMosaic Idealize.SL.Sem
open Facts₀ Facts

variable {F : FTy → Type} [FloatOps F]
variable [Facts]

/-- The programs of this kernel's body. -/
abbrev P (α : Type) : Type 1 := Prog (TpuEff nD τ sig (Elt F) Λ₀ .tc) α

/-! ## Rows

A piece is 128 or 256 rows; every side condition below holds for both. -/

/-- The two row counts a piece may have. -/
class Rows (nr : ℕ) : Prop where
  or : nr = 128 ∨ nr = 256

instance : Rows 128 := ⟨.inl rfl⟩
instance : Rows 256 := ⟨.inr rfl⟩

section
variable (nr : ℕ) [hn : Rows nr]
include hn

theorem Rows.le : nr ≤ 256 := by rcases hn.or with h | h <;> omega
theorem Rows.pos : 0 < nr := by rcases hn.or with h | h <;> omega
theorem Rows.even : 2 ∣ nr := by rcases hn.or with h | h <;> omega

theorem sqLoad : (⟨4, ![1, nr, 1, 128]⟩ : Shape).Squeezes ⟨2, ![nr, 128]⟩ := by
  rcases hn.or with rfl | rfl
  · exact squeezes_S1x128x1x128_S128x128
  · exact squeezes_S1x256x1x128_S256x128

theorem sqRows : (⟨3, ![1, nr, 4096]⟩ : Shape).Squeezes ⟨2, ![nr, 4096]⟩ := by
  rcases hn.or with rfl | rfl
  · exact squeezes_S1x128x4096_S128x4096
  · exact squeezes_S1x256x4096_S256x4096

theorem posStage : 0 < (⟨2, ![nr, 2048]⟩ : Shape).numel := by
  rcases hn.or with rfl | rfl
  · exact h_S128x2048
  · exact h_S256x2048

theorem posRows : 0 < (⟨3, ![1, nr, 4096]⟩ : Shape).numel := by
  rcases hn.or with rfl | rfl
  · exact h_S1x128x4096
  · exact h_S1x256x4096

theorem castStage : (⟨2, ![nr, 2048]⟩ : Shape).ShapeCasts ⟨2, ![nr, 2048]⟩ := by
  rcases hn.or with rfl | rfl
  · exact shapeCasts_S128x2048_S128x2048
  · exact shapeCasts_S256x2048_S256x2048

theorem castRows : (⟨2, ![nr, 4096]⟩ : Shape).ShapeCasts ⟨3, ![1, nr, 4096]⟩ := by
  rcases hn.or with rfl | rfl
  · exact shapeCasts_S128x4096_S1x128x4096
  · exact shapeCasts_S256x4096_S1x256x4096

theorem castRows' : (⟨3, ![1, nr, 4096]⟩ : Shape).ShapeCasts ⟨2, ![nr, 4096]⟩ := by
  rcases hn.or with rfl | rfl
  · exact shapeCasts_S1x128x4096_S128x4096
  · exact shapeCasts_S1x256x4096_S256x4096

theorem dotWf : DotDims.WF ⟨2, ![nr, 2048]⟩ S2048x4096 ⟨2, ![nr, 4096]⟩ [1] [0] [0] [1] [] [] := by
  rcases hn.or with rfl | rfl
  · exact dot_S128x2048_S2048x4096_S128x4096_1_0_0_1_n_n_wf
  · exact dot_S256x2048_S2048x4096_S256x4096_1_0_0_1_n_n_wf

theorem inbStage (h : Fin 16) : ∀ a, (![0, 128 * h.val] : Fin 2 → ℕ) a + (⟨2, ![nr, 128]⟩ : Shape).size a ≤ S256x2048.size a := by
  have := Rows.le nr
  have := h.isLt
  intro a
  match a with
  | 0 => show 0 + nr ≤ 256; omega
  | 1 => show 128 * h.val + 128 ≤ 2048; omega

theorem inbStageRows : ∀ a, (![0, 0] : Fin 2 → ℕ) a + (⟨2, ![nr, 2048]⟩ : Shape).size a ≤ S256x2048.size a := by
  have := Rows.le nr
  intro a
  match a with
  | 0 => show 0 + nr ≤ 256; omega
  | 1 => show 0 + 2048 ≤ 2048; omega

theorem inbSend (s : Fin 4) : ∀ a, (![s.val, 0, 0] : Fin 3 → ℕ) a + (⟨3, ![1, nr, 4096]⟩ : Shape).size a ≤ S4x256x4096.size a := by
  have := Rows.le nr
  intro a
  match a with
  | 0 => show s.val + 1 ≤ 4; omega
  | 1 => show 0 + nr ≤ 256; omega
  | 2 => show 0 + 4096 ≤ 4096; omega

theorem wordsSend (s : Fin 4) (hl) :
    (((Memref.whole cc0_scratch2).slice (Rect.unit (s := S4x256x4096) ![s.val, 0, 0] (⟨3, ![1, nr, 4096]⟩ : Shape).size (inbSend nr s)) hl) :
      Memref sig .tc .vmem _ .bf16).view.WordExact :=
  View.wordExact_slice_whole _ rfl _ (by decide) rfl (by exact dvd_zero 2) (by exact Rows.even nr)

theorem storeSend (s : Fin 4) :
    (((Memref.whole cc0_scratch2 : Memref sig .tc .vmem S4x256x4096 .bf16).access
      (Rect.unit (s := S4x256x4096) ![s.val, 0, 0] (⟨3, ![1, nr, 4096]⟩ : Shape).size (inbSend nr s)))).Stores Finset.univ :=
  View.stores_vmem (posRows nr) (View.storeExact_slice_whole _ rfl _ (by decide) rfl (by exact dvd_zero 2) (by exact Rows.even nr)) (fun _ => rfl)

theorem storeStage :
    (((Memref.whole cc0_scratch1 : Memref sig .tc .vmem S256x2048 .bf16).access
      (Rect.unit (s := S256x2048) ![0, 0] (⟨2, ![nr, 2048]⟩ : Shape).size (inbStageRows nr)))).Stores Finset.univ :=
  View.stores_vmem (posStage nr) (View.storeExact_slice_whole _ rfl _ (by decide) rfl (by exact dvd_zero 2) (by exact Rows.even nr)) (fun _ => rfl)

end

/-! ## The pieces of the program -/

/-- Sixteen statements, one per head. -/
def seq16 (f : Fin 16 → P (F := F) PUnit) : P (F := F) PUnit := do
  f 0
  f 1
  f 2
  f 3
  f 4
  f 5
  f 6
  f 7
  f 8
  f 9
  f 10
  f 11
  f 12
  f 13
  f 14
  f 15

section
variable (nr : ℕ) [hn : Rows nr]

/-- Head `h`'s columns of the staging buffer's first `nr` rows. -/
abbrev stageView (h : Fin 16) : Memref sig .tc .vmem ⟨2, ![nr, 128]⟩ .f32 :=
  (Memref.whole cc0_scratch0 : Memref sig .tc .vmem S256x2048 .f32).slice
    (Rect.unit (s := S256x2048) ![0, 128 * h.val] (⟨2, ![nr, 128]⟩ : Shape).size (inbStage nr h)) (fun _ => rfl)

/-- Where a chunk of the activations starts: its block of 512 rows and its first row there. -/
structure Src where
  /-- the block -/
  b : Fin 8
  /-- the first row -/
  r0 : ℕ
  inb : r0 + nr ≤ 512

omit hn in
theorem inbO (q : Src nr) (h : Fin 16) :
    ∀ a, (![q.b.val, q.r0, h.val, 0] : Fin 4 → ℕ) a + (⟨4, ![1, nr, 1, 128]⟩ : Shape).size a ≤ S8x512x16x128.size a := by
  intro a
  match a with
  | 0 => show q.b.val + 1 ≤ 8; omega
  | 1 => exact q.inb
  | 2 => show h.val + 1 ≤ 16; omega
  | 3 => show 0 + 128 ≤ 128; omega

/-- Head `h`'s rows of the activations, from the chunk's start on. -/
abbrev oView (q : Src nr) (h : Fin 16) :
    Memref sig .tc .hbm ⟨2, ![nr, 128]⟩ .f32 :=
  ((Memref.whole main_v2 : Memref sig .tc .hbm S8x512x16x128 .f32).slice
    (Rect.unit (s := S8x512x16x128) ![q.b.val, q.r0, h.val, 0] (⟨4, ![1, nr, 1, 128]⟩ : Shape).size (inbO nr q h)) (fun _ => rfl)).squeeze
      ⟨2, ![nr, 128]⟩ (sqLoad nr)

/-- Load one chunk of rows into the staging buffer: sixteen copies issued, then sixteen waits. -/
def loadChunk (q : Src nr) : P (F := F) PUnit := do
  seq16 fun h => Prog.lift (.enqueueDma (oView nr q h) (.here (stageView nr h)) (.dma cc0_scratch5.sem)
    ((View.wordExact_bits rfl).reshape _ _) (View.wordExact_bits rfl) ⟨Or.inl rfl, trivial⟩)
  seq16 fun h => Prog.lift (.waitDma2 cc0_scratch5.sem (oView nr q h) (stageView nr h)
    ((View.wordExact_bits rfl).reshape _ _) (View.wordExact_bits rfl))

/-- The product's dimension numbers. -/
def dotRows : DotDims ⟨2, ![nr, 2048]⟩ S2048x4096 ⟨2, ![nr, 4096]⟩ where
  lhsContracting := [1]
  rhsContracting := [0]
  lhsNonContracting := [0]
  rhsNonContracting := [1]
  lhsBatch := []
  rhsBatch := []
  wf := dotWf nr

/-- The first `nr` rows of the two staging buffers. -/
abbrev stageRect : Rect S256x2048 :=
  Rect.unit (s := S256x2048) ![0, 0] (⟨2, ![nr, 2048]⟩ : Shape).size (inbStageRows nr)

/-- The staged rows as bf16. -/
def castRowsBf (v : FVec F ⟨2, ![nr, 2048]⟩ .f32) : FVec F ⟨2, ![nr, 2048]⟩ .bf16 :=
  shapeCast ⟨2, ![nr, 2048]⟩ (truncf .bf16 v bitsLt_bf16_f32) (castStage nr)

/-- The product of a chunk with the weights. -/
def mulRows (a : FVec F ⟨2, ![nr, 2048]⟩ .bf16) (w : FVec F S2048x4096 .bf16) : FVec F ⟨2, ![nr, 4096]⟩ .f32 :=
  matmul (dotRows nr) none a (shapeCast S2048x4096 w shapeCasts_S2048x4096_S2048x4096)
    (constant ⟨2, ![nr, 4096]⟩ .f32 0x00000000#32)

/-- Cast the staged chunk and multiply it with the weights. -/
def product (arg1 : Memref sig .tc .vmem S2048x4096 .bf16) : P (F := F) (FVec F ⟨2, ![nr, 4096]⟩ .f32) := do
  let x : Vec F ⟨2, ![nr, 2048]⟩ .f32 ← Prog.lift (.load (Memref.whole cc0_scratch0 : Memref sig .tc .vmem S256x2048 .f32)
    (stageRect nr).toLoadRect (View.loadsAt_vmem (posStage nr)))
  let _ : Vec F ⟨2, ![nr, 2048]⟩ .bf16 ← Prog.lift (.load (Memref.whole cc0_scratch1 : Memref sig .tc .vmem S256x2048 .bf16)
    (stageRect nr).toLoadRect (View.loadsAt_vmem (posStage nr)))
  Prog.lift (.store (Memref.whole cc0_scratch1 : Memref sig .tc .vmem S256x2048 .bf16) (stageRect nr) (castRowsBf nr x)
    Finset.univ (storeStage nr) (.inl rfl))
  let a : Vec F ⟨2, ![nr, 2048]⟩ .bf16 ← Prog.lift (.load (Memref.whole cc0_scratch1 : Memref sig .tc .vmem S256x2048 .bf16)
    (stageRect nr).toLoadRect (View.loadsAt_vmem (posStage nr)))
  let w : Vec F S2048x4096 .bf16 ← Prog.lift (.load arg1
    (Rect.unit (s := S2048x4096) ![0, 0] S2048x4096.size inb_S2048x4096_S2048x4096_0_0).toLoadRect (View.loadsAt_vmem h_S2048x4096))
  pure (mulRows nr a w)

/-- The rows of send slot `s` that a piece uses. -/
abbrev sendRect (s : Fin 4) : Rect S4x256x4096 :=
  Rect.unit (s := S4x256x4096) ![s.val, 0, 0] (⟨3, ![1, nr, 4096]⟩ : Shape).size (inbSend nr s)

/-- The same as the source of a copy. -/
abbrev sendView (s : Fin 4) : Memref sig .tc .vmem ⟨2, ![nr, 4096]⟩ .bf16 :=
  ((Memref.whole cc0_scratch2 : Memref sig .tc .vmem S4x256x4096 .bf16).slice (sendRect nr s) (fun _ => rfl)).squeeze
    ⟨2, ![nr, 4096]⟩ (sqRows nr)

/-- A product as the piece sent. -/
def packRows (p : FVec F ⟨2, ![nr, 4096]⟩ .f32) : FVec F ⟨3, ![1, nr, 4096]⟩ .bf16 :=
  shapeCast ⟨3, ![1, nr, 4096]⟩ (truncf .bf16 p bitsLt_bf16_f32) (castRows nr)

end

/-- Where a piece lies in the receive buffer: its chunk and its first row. -/
structure Place (nr : ℕ) where
  /-- the chunk -/
  c : Fin 8
  /-- the first row -/
  r0 : ℕ
  inb : r0 + nr ≤ 256
  even : 2 ∣ r0

section
variable (nr : ℕ) [hn : Rows nr]

theorem inbRecv (q : Place nr) : ∀ a, (![q.c.val, q.r0, 0] : Fin 3 → ℕ) a + (⟨3, ![1, nr, 4096]⟩ : Shape).size a ≤ S8x256x4096.size a := by
  have := q.inb
  intro a
  match a with
  | 0 => show q.c.val + 1 ≤ 8; omega
  | 1 => exact q.inb
  | 2 => show 0 + 4096 ≤ 4096; omega

/-- The rows of the receive buffer that a piece fills. -/
abbrev recvRect (q : Place nr) : Rect S8x256x4096 :=
  Rect.unit (s := S8x256x4096) ![q.c.val, q.r0, 0] (⟨3, ![1, nr, 4096]⟩ : Shape).size (inbRecv nr q)

include hn in
theorem wordsRecv (q : Place nr) (hl) :
    (((Memref.whole cc0_scratch3).slice (recvRect nr q) hl) : Memref sig .tc .vmem _ .bf16).view.WordExact :=
  View.wordExact_slice_whole _ rfl _ (by decide) rfl (by exact q.even) (by exact Rows.even nr)

/-- The same as the target of a copy. -/
abbrev recvView (q : Place nr) : Memref sig .tc .vmem ⟨2, ![nr, 4096]⟩ .bf16 :=
  ((Memref.whole cc0_scratch3 : Memref sig .tc .vmem S8x256x4096 .bf16).slice (recvRect nr q) (fun _ => rfl)).squeeze
    ⟨2, ![nr, 4096]⟩ (sqRows nr)

theorem inbSem (i : Fin 10) : ∀ a, (![i.val] : Fin 1 → ℕ) a + S1.size a ≤ S10.size a := by
  intro a
  match a with
  | 0 => show i.val + 1 ≤ 10; omega

/-- Piece `i`'s send semaphore. -/
abbrev sendSem (i : Fin 10) : DmaSem sig :=
  ((cc0_scratch7.slice (Rect.unit (s := S10) ![i.val] S1.size (inbSem i))).squeeze S_ squeezes_S1_S_).sem

/-- Piece `i`'s receive semaphore. -/
abbrev recvSem (i : Fin 10) : DmaSem sig :=
  ((cc0_scratch8.slice (Rect.unit (s := S10) ![i.val] S1.size (inbSem i))).squeeze S_ squeezes_S1_S_).sem

/-- Push what the send slot holds to the peer. -/
def push (dev : Dev nD) (i : Fin 10) (s : Fin 4) (q : Place nr) : P (F := F) PUnit :=
  Prog.lift (.enqueueDma (sendView nr s) (.remote (Dev.tc dev) (recvView nr q) (.dma (sendSem i))) (.dma (recvSem i))
    ((wordsSend nr s _).reshape _ _) ((wordsRecv nr q _).reshape _ _) ⟨⟨rfl, Or.inl rfl⟩, trivial⟩)

/-- Wait until the push of piece `i` has left its slot. -/
def waitSend (i : Fin 10) (s : Fin 4) (q : Place nr) : P (F := F) PUnit :=
  Prog.lift (.waitDma2 (sendSem i) (recvView nr q) (sendView nr s)
    ((wordsRecv nr q _).reshape _ _) ((wordsSend nr s _).reshape _ _))

/-- Wait until the peer's piece `i` has arrived. -/
def waitRecv (i : Fin 10) (s : Fin 4) (q : Place nr) : P (F := F) PUnit :=
  Prog.lift (.waitDma2 (recvSem i) (sendView nr s) (recvView nr q)
    ((wordsSend nr s _).reshape _ _) ((wordsRecv nr q _).reshape _ _))

/-- Fill a send slot with the product of the staged chunk. -/
def fillSlot (arg1 : Memref sig .tc .vmem S2048x4096 .bf16) (s : Fin 4) : P (F := F) PUnit := do
  let p ← product (F := F) nr arg1
  let _ : Vec F ⟨3, ![1, nr, 4096]⟩ .bf16 ← Prog.lift (.load (Memref.whole cc0_scratch2 : Memref sig .tc .vmem S4x256x4096 .bf16)
    (sendRect nr s).toLoadRect (View.loadsAt_vmem (posRows nr)))
  Prog.lift (.store (Memref.whole cc0_scratch2 : Memref sig .tc .vmem S4x256x4096 .bf16) (sendRect nr s) (packRows nr p)
    Finset.univ (storeSend nr s) (.inl rfl))

/-- What arrived, as f32. -/
def widen (v : FVec F ⟨3, ![1, nr, 4096]⟩ .bf16) : FVec F ⟨2, ![nr, 4096]⟩ .f32 :=
  extf .f32 (shapeCast ⟨2, ![nr, 4096]⟩ v (castRows' nr)) bitsLt_bf16_f32

/-- Read a place of the receive buffer. -/
def readRecv (q : Place nr) : P (F := F) (Vec F ⟨3, ![1, nr, 4096]⟩ .bf16) :=
  Prog.lift (.load (Memref.whole cc0_scratch3 : Memref sig .tc .vmem S8x256x4096 .bf16)
    (recvRect nr q).toLoadRect (View.loadsAt_vmem (posRows nr)))

/-- Where rows of the result go: the batch and the first row. -/
structure OutPlace (nr : ℕ) where
  /-- the batch -/
  b : Fin 4
  /-- the first row -/
  r0 : ℕ
  inb : r0 + nr ≤ 512

theorem inbOut (o : OutPlace nr) : ∀ a, (![o.b.val, o.r0, 0] : Fin 3 → ℕ) a + (⟨3, ![1, nr, 4096]⟩ : Shape).size a ≤ S4x512x4096.size a := by
  have := o.inb
  intro a
  match a with
  | 0 => show o.b.val + 1 ≤ 4; omega
  | 1 => exact o.inb
  | 2 => show 0 + 4096 ≤ 4096; omega

/-- Those rows of the result. -/
abbrev outView (o : OutPlace nr) : Memref sig .tc .hbm ⟨2, ![nr, 4096]⟩ .f32 :=
  ((Memref.whole main_v3 : Memref sig .tc .hbm S4x512x4096 .f32).slice
    (Rect.unit (s := S4x512x4096) ![o.b.val, o.r0, 0] (⟨3, ![1, nr, 4096]⟩ : Shape).size (inbOut nr o)) (fun _ => rfl)).squeeze
      ⟨2, ![nr, 4096]⟩ (sqRows nr)

end

/-- Copy a part of the accumulator to the result and wait for it. -/
def copyOut (nr : ℕ) [Rows nr] (src : Memref sig .tc .vmem ⟨2, ![nr, 4096]⟩ .f32) (o : OutPlace nr) : P (F := F) PUnit := do
  Prog.lift (.enqueueDma src (.here (outView nr o)) (.dma cc0_scratch6.sem)
    (View.wordExact_bits rfl) ((View.wordExact_bits rfl).reshape _ _) ⟨Or.inl rfl, trivial⟩)
  Prog.lift (.waitDma2 cc0_scratch6.sem src (outView nr o) (View.wordExact_bits rfl) ((View.wordExact_bits rfl).reshape _ _))

/-- The whole accumulator. -/
abbrev accWhole : Memref sig .tc .vmem S256x4096 .f32 := Memref.whole cc0_scratch4

theorem inbAcc (r : Fin 2) : ∀ a, (![128 * r.val, 0] : Fin 2 → ℕ) a + S128x4096.size a ≤ S256x4096.size a := by
  intro a
  match a with
  | 0 => show 128 * r.val + 128 ≤ 256; omega
  | 1 => show 0 + 4096 ≤ 4096; omega

theorem sliceAcc (r : Fin 2) : S256x4096.Slices ![128 * r.val, 0] S128x4096 := by
  match r with
  | 0 => exact slices_S256x4096_o0_0_S128x4096
  | 1 => exact slices_S256x4096_o128_0_S128x4096

/-- Half `r` of the accumulator. -/
abbrev accRect (r : Fin 2) : Rect S256x4096 := Rect.unit (s := S256x4096) ![128 * r.val, 0] S128x4096.size (inbAcc r)

/-- The same as the source of a copy. -/
abbrev accHalf (r : Fin 2) : Memref sig .tc .vmem S128x4096 .f32 := accWhole.slice (accRect r) (fun _ => rfl)

/-- Add what the peer pushed for a whole chunk to the product, and copy the sum out. -/
def finish (p : FVec F S256x4096 .f32) (q : Place 256) (o : OutPlace 256) : P (F := F) PUnit := do
  let v ← readRecv (F := F) 256 q
  let _ : Vec F S256x4096 .f32 ← Prog.lift (.load accWhole
    (Rect.unit (s := S256x4096) ![0, 0] S256x4096.size inb_S256x4096_S256x4096_0_0).toLoadRect (View.loadsAt_vmem h_S256x4096))
  Prog.lift (.store accWhole (Rect.unit (s := S256x4096) ![0, 0] S256x4096.size inb_S256x4096_S256x4096_0_0)
    (shapeCast S256x4096 (addf p (widen 256 v)) shapeCasts_S256x4096_S256x4096) Finset.univ
    (View.stores_vmem_bits_univ h_S256x4096 rfl) (.inl rfl))
  copyOut 256 accWhole o

/-- The same for one half of the last chunk. -/
def finishHalf (p : FVec F S256x4096 .f32) (r : Fin 2) (q : Place 128) (o : OutPlace 128) : P (F := F) PUnit := do
  let v ← readRecv (F := F) 128 q
  let _ : Vec F S128x4096 .f32 ← Prog.lift (.load accWhole (accRect r).toLoadRect (View.loadsAt_vmem h_S128x4096))
  Prog.lift (.store accWhole (accRect r)
    (shapeCast S128x4096 (addf (extractStridedSlice S128x4096 ![128 * r.val, 0] p (sliceAcc r)) (widen 128 v)) shapeCasts_S128x4096_S128x4096)
    Finset.univ (View.stores_vmem_bits_univ h_S128x4096 rfl) (.inl rfl))
  copyOut 128 (accHalf r) o

/-- Signal the barrier semaphore of a device and wait for a unit on the own one. -/
def barrier (dev : Dev nD) : P (F := F) PUnit := do
  semSignalWord dev (SemArray.scalar (sig.barrier 0 rfl) : Sems sig S_).sem 1#32
  semWaitWord (SemArray.scalar (sig.barrier 0 rfl) : Sems sig S_).sem 1#32

/-- The places of the pieces. -/
abbrev place0 : Place 128 := ⟨0, 0, by decide, by decide⟩
abbrev place1 : Place 128 := ⟨0, 128, by decide, by decide⟩
abbrev placeC (c : Fin 8) : Place 256 := ⟨c, 0, by decide, by decide⟩
abbrev place8 : Place 128 := ⟨7, 0, by decide, by decide⟩
abbrev place9 : Place 128 := ⟨7, 128, by decide, by decide⟩

/-- Where a whole chunk's rows go. -/
abbrev outC (c : Fin 8) : OutPlace 256 := ⟨⟨c.val / 2, by omega⟩, 256 * (c.val % 2), by omega⟩
/-- Where the halves of the last chunk go. -/
abbrev outH (r : Fin 2) : OutPlace 128 := ⟨3, 256 + 128 * r.val, by omega⟩

/-! ## Where each chunk is loaded from, as the printed program computes it -/

/-- The source of load 0. -/
abbrev src0 (d0 : Dev nD) : Src 128 := ⟨⟨(k0_off1 d0) 0, k0_off1_inb d0 0⟩, 0, by decide⟩
/-- The source of load 1. -/
abbrev src1 (d0 : Dev nD) : Src 128 := ⟨⟨(k0_off17 d0) 0, k0_off17_inb d0 0⟩, 128, by decide⟩
/-- The source of load 2. -/
abbrev src2 (d0 : Dev nD) : Src 256 := ⟨⟨(k0_off33 d0 0#32) 0, k0_off33_inb d0 0 0⟩, 256, by decide⟩
/-- The source of load 3. -/
abbrev src3 (d0 : Dev nD) : Src 256 := ⟨⟨(k0_off49 d0 2#32) 0, k0_off49_inb d0 0 0⟩, 0, by decide⟩
/-- The source of load 4. -/
abbrev src4 (d0 : Dev nD) : Src 256 := ⟨⟨(k0_off33 d0 2#32) 0, k0_off33_inb d0 1 0⟩, 256, by decide⟩
/-- The source of load 5. -/
abbrev src5 (d0 : Dev nD) : Src 256 := ⟨⟨(k0_off49 d0 4#32) 0, k0_off49_inb d0 1 0⟩, 0, by decide⟩
/-- The source of load 6. -/
abbrev src6 (d0 : Dev nD) : Src 256 := ⟨⟨(k0_off33 d0 4#32) 0, k0_off33_inb d0 2 0⟩, 256, by decide⟩
/-- The source of load 7. -/
abbrev src7 (d0 : Dev nD) : Src 256 := ⟨⟨(k0_off49 d0 6#32) 0, k0_off49_inb d0 2 0⟩, 0, by decide⟩
/-- The source of load 8. -/
abbrev src8 (d0 : Dev nD) : Src 128 := ⟨⟨(k0_off65 d0) 0, k0_off65_inb d0 0⟩, 256, by decide⟩
/-- The source of load 9. -/
abbrev src9 (d0 : Dev nD) : Src 128 := ⟨⟨(k0_off81 d0) 0, k0_off81_inb d0 0⟩, 384, by decide⟩
/-- The source of load 10. -/
abbrev src10 (d0 : Dev nD) : Src 256 := ⟨⟨(k0_off97 d0 0#32) 0, k0_off97_inb d0 0 0⟩, 0, by decide⟩
/-- The source of load 11. -/
abbrev src11 (d0 : Dev nD) : Src 256 := ⟨⟨(k0_off113 d0 0#32) 0, k0_off113_inb d0 0 0⟩, 256, by decide⟩
/-- The source of load 12. -/
abbrev src12 (d0 : Dev nD) : Src 256 := ⟨⟨(k0_off97 d0 2#32) 0, k0_off97_inb d0 1 0⟩, 0, by decide⟩
/-- The source of load 13. -/
abbrev src13 (d0 : Dev nD) : Src 256 := ⟨⟨(k0_off113 d0 2#32) 0, k0_off113_inb d0 1 0⟩, 256, by decide⟩
/-- The source of load 14. -/
abbrev src14 (d0 : Dev nD) : Src 256 := ⟨⟨(k0_off97 d0 4#32) 0, k0_off97_inb d0 2 0⟩, 0, by decide⟩
/-- The source of load 15. -/
abbrev src15 (d0 : Dev nD) : Src 256 := ⟨⟨(k0_off113 d0 4#32) 0, k0_off113_inb d0 2 0⟩, 256, by decide⟩
/-- The source of load 16. -/
abbrev src16 (d0 : Dev nD) : Src 256 := ⟨⟨(k0_off97 d0 6#32) 0, k0_off97_inb d0 3 0⟩, 0, by decide⟩
/-- The source of load 17. -/
abbrev src17 (d0 : Dev nD) : Src 256 := ⟨⟨(k0_off113 d0 6#32) 0, k0_off113_inb d0 3 0⟩, 256, by decide⟩

/-- The body as a structured program. -/
def bodyS (arg1 : Memref sig .tc .vmem S2048x4096 .bf16) : P (F := F) PUnit := do
  let d0 : Dev nD ← Prog.lift .deviceId
  barrier ⟨k0_dev1 d0, k0_dev1_lt d0⟩
  loadChunk 128 (src0 d0)
  fillSlot 128 arg1 0
  push 128 ⟨k0_dev2 d0, k0_dev2_lt d0⟩ 0 0 place0
  loadChunk 128 (src1 d0)
  fillSlot 128 arg1 1
  push 128 ⟨k0_dev3 d0, k0_dev3_lt d0⟩ 1 1 place1
  loadChunk 256 (src2 d0)
  fillSlot 256 arg1 2
  push 256 ⟨k0_dev4 d0, k0_dev4_lt d0⟩ 2 2 (placeC 1)
  loadChunk 256 (src3 d0)
  fillSlot 256 arg1 3
  push 256 ⟨k0_dev5 d0, k0_dev5_lt d0⟩ 3 3 (placeC 2)
  loadChunk 256 (src4 d0)
  waitSend 128 0 0 place0
  fillSlot 256 arg1 0
  push 256 ⟨k0_dev6 d0, k0_dev6_lt d0⟩ 4 0 (placeC 3)
  loadChunk 256 (src5 d0)
  waitSend 128 1 1 place1
  fillSlot 256 arg1 1
  push 256 ⟨k0_dev7 d0, k0_dev7_lt d0⟩ 5 1 (placeC 4)
  loadChunk 256 (src6 d0)
  waitSend 256 2 2 (placeC 1)
  fillSlot 256 arg1 2
  push 256 ⟨k0_dev8 d0, k0_dev8_lt d0⟩ 6 2 (placeC 5)
  loadChunk 256 (src7 d0)
  waitSend 256 3 3 (placeC 2)
  fillSlot 256 arg1 3
  push 256 ⟨k0_dev9 d0, k0_dev9_lt d0⟩ 7 3 (placeC 6)
  loadChunk 128 (src8 d0)
  waitSend 256 4 0 (placeC 3)
  fillSlot 128 arg1 0
  push 128 ⟨k0_dev10 d0, k0_dev10_lt d0⟩ 8 0 place8
  loadChunk 128 (src9 d0)
  waitSend 256 5 1 (placeC 4)
  fillSlot 128 arg1 1
  push 128 ⟨k0_dev11 d0, k0_dev11_lt d0⟩ 9 1 place9
  loadChunk 256 (src10 d0)
  let p0 ← product 256 arg1
  waitRecv 128 0 0 place0
  waitRecv 128 1 1 place1
  finish p0 (placeC 0) (outC 0)
  loadChunk 256 (src11 d0)
  let p1 ← product 256 arg1
  waitRecv 256 2 2 (placeC 1)
  finish p1 (placeC 1) (outC 1)
  loadChunk 256 (src12 d0)
  let p2 ← product 256 arg1
  waitRecv 256 3 3 (placeC 2)
  finish p2 (placeC 2) (outC 2)
  loadChunk 256 (src13 d0)
  let p3 ← product 256 arg1
  waitRecv 256 4 0 (placeC 3)
  finish p3 (placeC 3) (outC 3)
  loadChunk 256 (src14 d0)
  let p4 ← product 256 arg1
  waitRecv 256 5 1 (placeC 4)
  finish p4 (placeC 4) (outC 4)
  loadChunk 256 (src15 d0)
  let p5 ← product 256 arg1
  waitRecv 256 6 2 (placeC 5)
  finish p5 (placeC 5) (outC 5)
  loadChunk 256 (src16 d0)
  let p6 ← product 256 arg1
  waitRecv 256 7 3 (placeC 6)
  finish p6 (placeC 6) (outC 6)
  loadChunk 256 (src17 d0)
  let p7 ← product 256 arg1
  waitRecv 128 8 0 place8
  finishHalf p7 0 place8 (outH 0)
  waitRecv 128 9 1 place9
  finishHalf p7 1 place9 (outH 1)
  waitSend 256 6 2 (placeC 5)
  waitSend 256 7 3 (placeC 6)
  waitSend 128 8 0 place8
  waitSend 128 9 1 place9
  barrier ⟨k0_dev12 d0, k0_dev12_lt d0⟩

end Cert.KernelIdeal

end
-- ==== Proof.Geom.lean ====
/-
  Where each window of the kernel's buffers lies, index by index: the element a copy's window has at
  an index (`…_emb`) and the elements it covers (`mem_…`).
-/
module

public import proofs.«01_k».proof.Proof.Body

@[expose] public section

noncomputable section

namespace Cert.KernelIdeal

open Idealize.ShloMosaic Idealize.SL.Sem
open Facts₀ Facts

variable {F : FTy → Type} [FloatOps F]
variable [Facts]

/-- The index of a rank-three shape from its coordinates. -/
def ix3 {d : Fin 3 → ℕ} (a : Fin (d 0)) (b : Fin (d 1)) (c : Fin (d 2)) : (⟨3, d⟩ : Shape).Idx
  | 0 => a
  | 1 => b
  | 2 => c

/-- The index of a rank-four shape from its coordinates. -/
def ix4 {d : Fin 4 → ℕ} (a : Fin (d 0)) (b : Fin (d 1)) (c : Fin (d 2)) (e : Fin (d 3)) : (⟨4, d⟩ : Shape).Idx
  | 0 => a
  | 1 => b
  | 2 => c
  | 3 => e

section
variable (nr : ℕ) [hn : Rows nr]

include hn in
theorem row_lt_256 (r : Fin nr) : r.val < 256 := by have := Rows.le nr; omega

include hn in
/-- The squeeze of a block of rows matches a row and a column with the same behind a zero. -/
theorem reshape_rows (x : (⟨2, ![nr, 4096]⟩ : Shape).Idx) :
    Shape.reshapeEquiv (sqRows nr).numel_eq x = (ix3 (d := ![1, nr, 4096]) (⟨0, Nat.one_pos⟩ : Fin 1) (x 0) (x 1)) :=
  Shape.reshapeEquiv_eq_of_rowMajor _ (by
    rw [Shape.rowMajor_val_three, Shape.rowMajor_val_two]
    show (0 * nr + (x 0).val) * 4096 + (x 1).val = (x 0).val * 4096 + (x 1).val
    omega)

include hn in
theorem reshape_load (x : (⟨2, ![nr, 128]⟩ : Shape).Idx) :
    Shape.reshapeEquiv (sqLoad nr).numel_eq x
      = (ix4 (d := ![1, nr, 1, 128]) (⟨0, Nat.one_pos⟩ : Fin 1) (x 0) (⟨0, Nat.one_pos⟩ : Fin 1) (x 1)) :=
  Shape.reshapeEquiv_eq_of_rowMajor _ (by
    rw [Shape.rowMajor_val_four, Shape.rowMajor_val_two]
    show ((0 * nr + (x 0).val) * 1 + 0) * 128 + (x 1).val = (x 0).val * 128 + (x 1).val
    omega)

/-! ## The staging buffer -/

theorem stage_emb (h : Fin 16) (x : (⟨2, ![nr, 128]⟩ : Shape).Idx) :
    (stageView nr h).view.emb x
      = Shape.pair (d := ![256, 2048]) ⟨(x 0).val, row_lt_256 nr (x 0)⟩ ⟨128 * h.val + (x 1).val, by
          have : (x 1).val < 128 := (x 1).isLt
          show _ < 2048; omega⟩ := by
  funext a
  apply Fin.ext
  match a with
  | 0 => show 0 + 1 * (x 0).val = (x 0).val; omega
  | 1 => show 128 * h.val + 1 * (x 1).val = 128 * h.val + (x 1).val; omega

theorem mem_stage (h : Fin 16) (i : S256x2048.Idx) :
    i ∈ (stageView nr h).view.set ↔ (i 0).val < nr ∧ (i 1).val / 128 = h.val := by
  constructor
  · intro hi
    obtain ⟨x, -, rfl⟩ := Finset.mem_map.mp hi
    rw [stage_emb]
    have h1 : (x 1).val < 128 := (x 1).isLt
    exact ⟨(x 0).isLt, by show (128 * h.val + (x 1).val) / 128 = h.val; omega⟩
  · rintro ⟨h0, h1⟩
    have h2 : (i 1).val < 2048 := (i 1).isLt
    refine Finset.mem_map.mpr ⟨Shape.pair (d := ![nr, 128]) ⟨(i 0).val, h0⟩ ⟨(i 1).val % 128, Nat.mod_lt _ (by decide)⟩,
      Finset.mem_univ _, ?_⟩
    rw [stage_emb]
    funext a
    apply Fin.ext
    match a with
    | 0 => rfl
    | 1 => show 128 * h.val + (i 1).val % 128 = (i 1).val; omega

theorem o_emb (q : Src nr) (h : Fin 16) (x : (⟨2, ![nr, 128]⟩ : Shape).Idx) :
    (oView nr q h).view.emb x
      = ix4 (d := ![8, 512, 16, 128]) q.b ⟨q.r0 + (x 0).val, by
          have : (x 0).val < nr := (x 0).isLt
          have := q.inb
          show _ < 512; omega⟩ h (x 1) := by
  show ((Rect.unit (s := S8x512x16x128) ![q.b.val, q.r0, h.val, 0] (⟨4, ![1, nr, 1, 128]⟩ : Shape).size (inbO nr q h)).emb
    (Shape.reshapeEquiv (sqLoad nr).numel_eq x)) = _
  rw [reshape_load]
  funext a
  apply Fin.ext
  match a with
  | 0 => show q.b.val + 1 * 0 = q.b.val; omega
  | 1 => show q.r0 + 1 * (x 0).val = q.r0 + (x 0).val; omega
  | 2 => show h.val + 1 * 0 = h.val; omega
  | 3 => show 0 + 1 * (x 1).val = (x 1).val; omega

theorem mem_o (q : Src nr) (h : Fin 16) (i : S8x512x16x128.Idx) (hi : i ∈ (oView nr q h).view.set) : i 2 = h := by
  obtain ⟨x, -, rfl⟩ := Finset.mem_map.mp hi
  rw [o_emb]
  rfl

/-! ## The blocks of rows -/

theorem send_emb (s : Fin 4) (x : (⟨2, ![nr, 4096]⟩ : Shape).Idx) :
    (sendView nr s).view.emb x = ix3 (d := ![4, 256, 4096]) s ⟨(x 0).val, row_lt_256 nr (x 0)⟩ (x 1) := by
  show (sendRect nr s).emb (Shape.reshapeEquiv (sqRows nr).numel_eq x) = _
  rw [reshape_rows]
  funext a
  apply Fin.ext
  match a with
  | 0 => show s.val + 1 * 0 = s.val; omega
  | 1 => show 0 + 1 * (x 0).val = (x 0).val; omega
  | 2 => show 0 + 1 * (x 1).val = (x 1).val; omega

/-- The rows of a send slot that a piece of `n` rows covers. -/
def slotWin (s : Fin 4) (n : ℕ) : Finset S4x256x4096.Idx := Finset.univ.filter fun i => (i 0).val = s.val ∧ (i 1).val < n

theorem send_set (s : Fin 4) : (sendView nr s).view.set = slotWin s nr := by
  ext i
  constructor
  · intro hi
    obtain ⟨x, -, rfl⟩ := Finset.mem_map.mp hi
    rw [send_emb]
    exact Finset.mem_filter.mpr ⟨Finset.mem_univ _, rfl, (x 0).isLt⟩
  · intro hi
    obtain ⟨-, h0, h1⟩ := Finset.mem_filter.mp hi
    refine Finset.mem_map.mpr ⟨Shape.pair (d := ![nr, 4096]) ⟨(i 1).val, h1⟩ (i 2), Finset.mem_univ _, ?_⟩
    rw [send_emb]
    funext a
    match a with
    | 0 => exact Fin.ext h0.symm
    | 1 => rfl
    | 2 => rfl

theorem recv_emb (q : Place nr) (x : (⟨2, ![nr, 4096]⟩ : Shape).Idx) :
    (recvView nr q).view.emb x = ix3 (d := ![8, 256, 4096]) q.c ⟨q.r0 + (x 0).val, by
        have := q.inb
        have : (x 0).val < nr := (x 0).isLt
        show _ < 256; omega⟩ (x 1) := by
  show (recvRect nr q).emb (Shape.reshapeEquiv (sqRows nr).numel_eq x) = _
  rw [reshape_rows]
  funext a
  apply Fin.ext
  match a with
  | 0 => show q.c.val + 1 * 0 = q.c.val; omega
  | 1 => show q.r0 + 1 * (x 0).val = q.r0 + (x 0).val; omega
  | 2 => show 0 + 1 * (x 1).val = (x 1).val; omega

/-- The rows of the receive buffer that a place covers. -/
def recvWin (c : Fin 8) (r0 n : ℕ) : Finset S8x256x4096.Idx :=
  Finset.univ.filter fun i => (i 0).val = c.val ∧ r0 ≤ (i 1).val ∧ (i 1).val < r0 + n

theorem recv_set (q : Place nr) : (recvView nr q).view.set = recvWin q.c q.r0 nr := by
  ext i
  constructor
  · intro hi
    obtain ⟨x, -, rfl⟩ := Finset.mem_map.mp hi
    rw [recv_emb]
    have h1 : (x 0).val < nr := (x 0).isLt
    exact Finset.mem_filter.mpr ⟨Finset.mem_univ _, rfl, Nat.le_add_right _ _, Nat.add_lt_add_left h1 _⟩
  · intro hi
    obtain ⟨-, h0, h1, h2⟩ := Finset.mem_filter.mp hi
    refine Finset.mem_map.mpr ⟨Shape.pair (d := ![nr, 4096]) ⟨(i 1).val - q.r0, by show _ < nr; omega⟩ (i 2), Finset.mem_univ _, ?_⟩
    rw [recv_emb]
    funext a
    match a with
    | 0 => exact Fin.ext h0.symm
    | 1 => exact Fin.ext (show q.r0 + ((i 1).val - q.r0) = (i 1).val by omega)
    | 2 => rfl

theorem out_emb (o : OutPlace nr) (x : (⟨2, ![nr, 4096]⟩ : Shape).Idx) :
    (outView nr o).view.emb x = ix3 (d := ![4, 512, 4096]) o.b ⟨o.r0 + (x 0).val, by
        have := o.inb
        have : (x 0).val < nr := (x 0).isLt
        show _ < 512; omega⟩ (x 1) := by
  show (Rect.unit (s := S4x512x4096) ![o.b.val, o.r0, 0] (⟨3, ![1, nr, 4096]⟩ : Shape).size (inbOut nr o)).emb
    (Shape.reshapeEquiv (sqRows nr).numel_eq x) = _
  rw [reshape_rows]
  funext a
  apply Fin.ext
  match a with
  | 0 => show o.b.val + 1 * 0 = o.b.val; omega
  | 1 => show o.r0 + 1 * (x 0).val = o.r0 + (x 0).val; omega
  | 2 => show 0 + 1 * (x 1).val = (x 1).val; omega

/-- The rows of the result that a place covers. -/
def outWin (b : Fin 4) (r0 n : ℕ) : Finset S4x512x4096.Idx :=
  Finset.univ.filter fun i => (i 0).val = b.val ∧ r0 ≤ (i 1).val ∧ (i 1).val < r0 + n

theorem out_set (o : OutPlace nr) : (outView nr o).view.set = outWin o.b o.r0 nr := by
  ext i
  constructor
  · intro hi
    obtain ⟨x, -, rfl⟩ := Finset.mem_map.mp hi
    rw [out_emb]
    have h1 : (x 0).val < nr := (x 0).isLt
    exact Finset.mem_filter.mpr ⟨Finset.mem_univ _, rfl, Nat.le_add_right _ _, Nat.add_lt_add_left h1 _⟩
  · intro hi
    obtain ⟨-, h0, h1, h2⟩ := Finset.mem_filter.mp hi
    refine Finset.mem_map.mpr ⟨Shape.pair (d := ![nr, 4096]) ⟨(i 1).val - o.r0, by show _ < nr; omega⟩ (i 2), Finset.mem_univ _, ?_⟩
    rw [out_emb]
    funext a
    match a with
    | 0 => exact Fin.ext h0.symm
    | 1 => exact Fin.ext (show o.r0 + ((i 1).val - o.r0) = (i 1).val by omega)
    | 2 => rfl

end

/-! ## What the windows hold -/

/-- The rows of the activations a chunk takes, as a matrix: column `128 h + k` is entry `k` of head `h`. -/
def chunk (nr : ℕ) (q : Src nr) (O : FVec F S8x512x16x128 .f32) : FVec F ⟨2, ![nr, 2048]⟩ .f32 := fun i =>
  O (ix4 (d := ![8, 512, 16, 128]) q.b ⟨q.r0 + (i 0).val, by
      have : (i 0).val < nr := (i 0).isLt
      have := q.inb
      show _ < 512; omega⟩
    ⟨(i 1).val / 128, by have : (i 1).val < 2048 := (i 1).isLt; show _ < 16; omega⟩
    ⟨(i 1).val % 128, Nat.mod_lt _ (by decide)⟩)

/-- A chunk's product with the weights. -/
def prod (nr : ℕ) [Rows nr] (q : Src nr) (O : FVec F S8x512x16x128 .f32) (W : FVec F S2048x4096 .bf16) :
    FVec F ⟨2, ![nr, 4096]⟩ .f32 :=
  mulRows nr (castRowsBf nr (chunk nr q O)) W

/-- The same as it is sent. -/
def part (nr : ℕ) [Rows nr] (q : Src nr) (O : FVec F S8x512x16x128 .f32) (W : FVec F S2048x4096 .bf16) :
    FVec F ⟨2, ![nr, 4096]⟩ .bf16 :=
  truncf .bf16 (prod nr q O W) bitsLt_bf16_f32

end Cert.KernelIdeal

end
-- ==== Proof.Proto.lean ====
/-
  The protocol two devices of a pair follow: who signals whom, how much, in what order, and what is
  handed over with each unit.

  Every device owns one barrier cell and, per piece, one send and one receive cell.
  * Barrier, round 0: one unit from the peer, which hands over the peer's whole receive buffer and
    that round 0 of the peer's receive cells is reached. Round 1: one unit from the peer, nothing with it.
  * Receive cell of piece `i`: one round, paid by the peer's copy, which hands back the rows of the
    piece at the contents the peer computed, and that round 1 of the peer's barrier cell is reached.
  * Send cell of piece `i`: one round, paid by the own copy, which hands the rows of the slot back.
-/
module

public import proofs.«01_k».proof.Proof.Geom
public import Idealize.ShloMosaic.Lib.ViewIndex
public import Idealize.ShloMosaic.Lib.Rounds
public import Idealize.ShloMosaic.Lib.Transfers
public import Idealize.ShloMosaic.Lib.Pipeline.Kit

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable [Facts]

/-! ## The pairs -/

/-- The other device of the pair: the one whose coordinate on the second mesh axis differs. -/
def pr (c : Dev nD) : Dev nD := ⟨(4 * (c.val / 4) + c.val % 2 + 2) - 2 * ((c.val / 2) % 2), by have : c.val < 8 := c.isLt; show _ < 8; omega⟩

omit [Facts] in
theorem pr_pr (c : Dev nD) : pr (pr c) = c := by revert c; decide

/-- The pairing as a permutation of the devices. -/
def swap : Dev nD ≃ Dev nD := ⟨pr, pr, pr_pr, pr_pr⟩

/-- The coordinate on the second mesh axis. -/
def yOf (c : Dev nD) : ℕ := c.val / 2 % 2

omit [Facts] in
theorem yOf_lt (c : Dev nD) : yOf c < 2 := Nat.mod_lt _ (by decide)

omit [Facts] in
theorem yOf_pr (c : Dev nD) : yOf (pr c) = 1 - yOf c := by revert c; decide

/-- Chunk `ch` of the block that device `c` computes for its peer. -/
abbrev oth (c : Dev nD) (ch : Fin 8) : Src 256 :=
  ⟨⟨2 * (ch.val / 2) + (1 - yOf c), by omega⟩, 256 * (ch.val % 2), by omega⟩
/-- A half of such a chunk. -/
abbrev othH (c : Dev nD) (ch : Fin 8) (r : Fin 2) : Src 128 :=
  ⟨⟨2 * (ch.val / 2) + (1 - yOf c), by omega⟩, 256 * (ch.val % 2) + 128 * r.val, by omega⟩
/-- Chunk `ch` of the block that device `c` keeps. -/
abbrev own (c : Dev nD) (ch : Fin 8) : Src 256 :=
  ⟨⟨2 * (ch.val / 2) + yOf c, by have := yOf_lt c; omega⟩, 256 * (ch.val % 2), by omega⟩

/-! ## The resource algebra -/

/-- The pipeline's rounds, the protocol's rounds, and the local copies' counters. -/
abbrev UU : Type := UR sig nD τ × (UR sig nD τ × Counters)

local notation "𝕄" => MT nD τ sig ℕ (Elt F) ℕ UU ℕ

abbrev EP : Emb (UR sig nD τ) (MT nD τ sig ℕ (Elt F) ℕ UU ℕ) := embL
/-- The protocol's rounds. -/
def ER : Emb (UR sig nD τ) (MT nD τ sig ℕ (Elt F) ℕ UU ℕ) :=
  ((Emb.inl : Emb (UR sig nD τ) (UR sig nD τ × Counters)).trans (Emb.inr : Emb (UR sig nD τ × Counters) UU)).trans
    (uEmb (nD := nD) (sig := sig) (Ix := ℕ) (Val := Elt F) (Name := ℕ) (U := UU) (Lvl := ℕ)).toEmb
instance ER_landsIn : (ER (F := F)).LandsIn (upEmb : UEmb _ 𝕄) := by unfold ER; infer_instance
/-- The local copies' counters. -/
abbrev EC : UEmb Counters (MT nD τ sig ℕ (Elt F) ℕ UU ℕ) := countersEmb (U := UU)

/-! ## The pieces -/

/-- A piece's number of rows. -/
def pn (i : Fin 10) : ℕ := if i.val < 2 ∨ 8 ≤ i.val then 128 else 256
/-- Its chunk. -/
def pc (i : Fin 10) : Fin 8 := ⟨if i.val < 2 then 0 else if i.val < 9 then i.val - 1 else 7, by split <;> (try split) <;> omega⟩
/-- Its first row there. -/
def p0 (i : Fin 10) : ℕ := if i.val = 1 ∨ i.val = 9 then 128 else 0
/-- The send slot it goes through. -/
def ps (i : Fin 10) : Fin 4 := ⟨i.val % 4, Nat.mod_lt _ (by decide)⟩

/-- The credit of a block of 128 and of 256 rows. -/
def crH : ℕ := (sendView 128 0).view.dmaCredit
def crW : ℕ := (sendView 256 0).view.dmaCredit
/-- What a piece's copy signals. -/
def cr (i : Fin 10) : ℕ := if pn i = 128 then crH else crW

theorem cr_pos (i : Fin 10) : 0 < cr i := by
  unfold cr crH crW
  split
  · exact View.dmaCredit_pos _ (by decide)
  · exact View.dmaCredit_pos _ (by decide)

theorem cr_send (nr : ℕ) [hn : Rows nr] (s : Fin 4) (i : Fin 10) (hi : pn i = nr) : (sendView nr s).view.dmaCredit = cr i := by
  unfold cr
  rcases hn.or with rfl | rfl
  · rw [if_pos hi]; rfl
  · rw [if_neg (by omega)]; rfl

theorem cr_recv (nr : ℕ) [hn : Rows nr] (q : Place nr) (i : Fin 10) (hi : pn i = nr) : (recvView nr q).view.dmaCredit = cr i := by
  unfold cr
  rcases hn.or with rfl | rfl
  · rw [if_pos hi]; rfl
  · rw [if_neg (by omega)]; rfl

/-! ## The cells -/

/-- The barrier semaphore. -/
abbrev barS : Sem sig := 0

abbrev barC (c : Dev nD) : GSem nD τ sig := ((c : Thread nD τ), .reg barS)
abbrev sendC (c : Dev nD) (i : Fin 10) : GSem nD τ sig := ((c : Thread nD τ), .dma (sendSem i))
abbrev recvC (c : Dev nD) (i : Fin 10) : GSem nD τ sig := ((c : Thread nD τ), .dma (recvSem i))

/-- What a semaphore is for. -/
inductive Role where
  /-- the barrier -/
  | bar
  /-- a piece has left -/
  | send (i : Fin 10)
  /-- a piece has arrived -/
  | recv (i : Fin 10)
  /-- local copies only -/
  | loc
deriving DecidableEq

/-- The role of a semaphore. -/
def role : SemLoc sig → Role
  | .reg _ => .bar
  | .dma s => if h : 3 ≤ s.val ∧ s.val < 13 then .send ⟨s.val - 3, by omega⟩
      else if h : 13 ≤ s.val then .recv ⟨s.val - 13, by have : s.val < 23 := s.isLt; omega⟩ else .loc

theorem sendSem_val (i : Fin 10) : (sendSem i).val = 3 + i.val := by
  have key : ∀ y : S1.Idx, (cc0_scratch7.ix ((Rect.unit (s := S10) ![i.val] S1.size (inbSem i)).emb y)).val = 3 + i.val := fun y => by
    have hy : (y 0).val = 0 := Nat.lt_one_iff.mp (y 0).isLt
    show 3 + (S10.rowMajor _).val = 3 + i.val
    rw [Shape.rowMajor_val_one]
    show 3 + (i.val + 1 * (y 0).val) = 3 + i.val
    omega
  exact key _

theorem recvSem_val (i : Fin 10) : (recvSem i).val = 13 + i.val := by
  have key : ∀ y : S1.Idx, (cc0_scratch8.ix ((Rect.unit (s := S10) ![i.val] S1.size (inbSem i)).emb y)).val = 13 + i.val := fun y => by
    have hy : (y 0).val = 0 := Nat.lt_one_iff.mp (y 0).isLt
    show 13 + (S10.rowMajor _).val = 13 + i.val
    rw [Shape.rowMajor_val_one]
    show 13 + (i.val + 1 * (y 0).val) = 13 + i.val
    omega
  exact key _

theorem role_send (i : Fin 10) : role (.dma (sendSem i)) = .send i := by
  have h := sendSem_val i
  refine (dif_pos (by omega)).trans ?_
  exact congrArg Role.send (Fin.ext (by show (sendSem i).val - 3 = i.val; omega))

theorem role_recv (i : Fin 10) : role (.dma (recvSem i)) = .recv i := by
  have h := recvSem_val i
  refine (dif_neg (by omega)).trans ((dif_pos (by omega)).trans ?_)
  exact congrArg Role.recv (Fin.ext (by show (recvSem i).val - 13 = i.val; omega))

/-! ## What is handed over -/

/-- Every device's activations and weights as the kernel finds them. -/
structure Inputs (F : FTy → Type) where
  /-- the activations -/
  O : Dev nD → FVec F S8x512x16x128 .f32
  /-- the weights -/
  W : Dev nD → FVec F S2048x4096 .bf16

variable (I : Inputs F)

omit [Facts] in
/-- Two indices of a matrix with the same coordinates are equal. -/
theorem idx2_ext {d : Fin 2 → Nat} {x y : (⟨2, d⟩ : Shape).Idx} (h0 : (x 0).val = (y 0).val) (h1 : (x 1).val = (y 1).val) :
    x = y :=
  funext fun a => by
    match a with
    | 0 => exact Fin.ext h0
    | 1 => exact Fin.ext h1

/-- What device `d`'s receive buffer holds when every piece has arrived. -/
def Grecv (d : Dev nD) : Vec F S8x256x4096 .bf16 := fun j =>
  if (j 0).val = 0 ∨ (j 0).val = 7 then
    part 128 (othH (pr d) (j 0) ⟨(j 1).val / 128, by have : (j 1).val < 256 := (j 1).isLt; omega⟩) (I.O (pr d)) (I.W (pr d))
      (Shape.pair (d := ![128, 4096]) ⟨(j 1).val % 128, Nat.mod_lt _ (by decide)⟩ (j 2))
  else part 256 (oth (pr d) (j 0)) (I.O (pr d)) (I.W (pr d)) (Shape.pair (d := ![256, 4096]) (j 1) (j 2))

theorem Grecv_half (c : Dev nD) (q : Place 128) (r : Fin 2) (hc : q.c.val = 0 ∨ q.c.val = 7) (hr : q.r0 = 128 * r.val)
    (x : (⟨2, ![128, 4096]⟩ : Shape).Idx) :
    Grecv I (pr c) ((recvView 128 q).view.emb x) = part 128 (othH c q.c r) (I.O c) (I.W c) x := by
  have hx : (x 0).val < 128 := (x 0).isLt
  rw [recv_emb]
  have h1 : (⟨(q.r0 + (x 0).val) / 128, by have := q.inb; omega⟩ : Fin 2) = r := Fin.ext (by show (q.r0 + (x 0).val) / 128 = r.val; omega)
  unfold Grecv
  rw [pr_pr]
  refine (if_pos hc).trans ?_
  exact congrArg₂ (fun (r' : Fin 2) (y : (⟨2, ![128, 4096]⟩ : Shape).Idx) => part 128 (othH c q.c r') (I.O c) (I.W c) y) h1
    (idx2_ext (by show (q.r0 + (x 0).val) % 128 = (x 0).val; omega) rfl)

theorem Grecv_whole (c : Dev nD) (q : Place 256) (hc : ¬(q.c.val = 0 ∨ q.c.val = 7)) (x : (⟨2, ![256, 4096]⟩ : Shape).Idx) :
    Grecv I (pr c) ((recvView 256 q).view.emb x) = part 256 (oth c q.c) (I.O c) (I.W c) x := by
  have hq := q.inb
  have h0 : q.r0 = 0 := by omega
  rw [recv_emb]
  unfold Grecv
  rw [pr_pr]
  refine (if_neg hc).trans ?_
  exact congrArg (part 256 (oth c q.c) (I.O c) (I.W c)) (idx2_ext (by show q.r0 + (x 0).val = (x 0).val; omega) rfl)

/-- The whole of a buffer of device `c`. -/
abbrev pt (c : Dev nD) (b : Ref sig .tc) (f : b.ty.Contents (Elt F)) : sProp 𝕄 := ((c : Thread nD τ).loc b) ↦{fullShare} f
/-- Some of its elements. -/
abbrev ptOn (c : Dev nD) (b : Ref sig .tc) (S : Finset b.ty.Idx) (f : b.ty.Contents (Elt F)) : sProp 𝕄 :=
  ((c : Thread nD τ).loc b) ↦[S]{fullShare} f

/-- The round-0 unit of device `c`'s barrier cell. -/
def barPay (c : Dev nD) : sProp 𝕄 :=
  iprop((∃ f : Vec F S8x256x4096 .bf16, pt (pr c) cc0_scratch3 f) ∗ bigSep Finset.univ fun i : Fin 10 => reached ER (recvC (pr c) i) 0)
/-- The copy of piece `i` into device `c`. -/
def recvPay (c : Dev nD) (i : Fin 10) : sProp 𝕄 :=
  iprop(ptOn c cc0_scratch3 (recvWin (pc i) (p0 i) (pn i)) (Grecv I c) ∗ reached ER (barC (pr c)) 1)
/-- The copy of piece `i` out of device `c`. -/
def sendPay (c : Dev nD) (i : Fin 10) : sProp 𝕄 :=
  iprop(∃ f : Vec F S4x256x4096 .bf16, ptOn c cc0_scratch2 (slotWin (ps i) (pn i)) f)

/-! ## The schedule -/

/-- How many rounds a cell has. -/
def nRounds : Role → ℕ
  | .bar => 2
  | .send _ => 1
  | .recv _ => 1
  | .loc => 0

/-- What a unit of a cell's round hands over. -/
def pay (c : Dev nD) (r : ℕ) : Role → sProp 𝕄
  | .bar => if r = 0 then barPay c else iprop(emp)
  | .send i => sendPay c i
  | .recv i => recvPay I c i
  | .loc => iprop(emp)

/-- How much a cell's duty signals. -/
def amt : Role → ℕ
  | .bar => 1
  | .send i => cr i
  | .recv i => cr i
  | .loc => 1

theorem amt_pos (k : Role) : 0 < amt k := by
  cases k with
  | bar => exact Nat.one_pos
  | send i => exact cr_pos i
  | recv i => exact cr_pos i
  | loc => exact Nat.one_pos

/-- The protocol. -/
def Rd : Rounds.Schedule (GSem nD τ sig) Unit 𝕄 where
  duties g r := if g.1.2 = .tc ∧ r < nRounds (role g.2) then {()} else ∅
  unitless _ := False
  amount g _ _ := amt (role g.2)
  payload g r _ := pay I g.1.1 r (role g.2)
  amount_pos g _ _ _ := amt_pos _

instance Rd_storable (g : GSem nD τ sig) (r : ℕ) (d : Unit) : BI.Storable (upEmb : UEmb _ 𝕄) ((Rd I).payload g r d) := by
  show BI.Storable upEmb (pay I g.1.1 r (role g.2))
  cases role g.2 with
  | bar => unfold pay barPay; dsimp only; split <;> infer_instance
  | send i => unfold pay sendPay; dsimp only; infer_instance
  | recv i => unfold pay recvPay; dsimp only; infer_instance
  | loc => unfold pay; dsimp only; infer_instance

section Sched
variable (c : Dev nD) (sm : SemLoc sig) (r : ℕ)

theorem duties_eq (h : r < nRounds (role sm)) : (Rd I).duties ((c : Thread nD τ), sm) r = {()} := if_pos ⟨rfl, h⟩
theorem duties_none (g : GSem nD τ sig) (h : nRounds (role g.2) ≤ r) : (Rd I).duties g r = ∅ := if_neg fun hc => by omega
theorem duty_mem (h : r < nRounds (role sm)) : () ∈ (Rd I).duties ((c : Thread nD τ), sm) r := by
  rw [duties_eq I c sm r h]; exact Finset.mem_singleton_self _
theorem expect_eq (h : r < nRounds (role sm)) : (Rd I).expect ((c : Thread nD τ), sm) r = amt (role sm) := by
  unfold Schedule.expect Schedule.amountOf
  rw [duties_eq I c sm r h, Finset.sum_singleton]
  rfl
theorem rest_eq (h : r < nRounds (role sm)) :
    bigSep ((Rd I).duties ((c : Thread nD τ), sm) r \ ∅) (fun u => (Rd I).payload ((c : Thread nD τ), sm) r u) = pay I c r (role sm) := by
  rw [Finset.sdiff_empty, duties_eq I c sm r h, bigSep_singleton]
  rfl

end Sched

/-! ## What a device owes; the levels -/

/-- What device `c` still owes after `k` pushes: its peer's receive credits from piece `k` on, and the
    peer's second barrier unit. -/
def Oleft (c : Dev nD) : ℕ → CellTallies nD τ sig ℕ
  | 0 => tallyAt (barC (pr c)) 3 1
  | n + 1 => if h : n < 10 then Oleft c n + tallyAt (recvC (pr c) ⟨9 - n, by omega⟩) 2 (cr ⟨9 - n, by omega⟩) else Oleft c n

/-- What device `c` owes at launch. -/
def Oall (c : Dev nD) : CellTallies nD τ sig ℕ := Oleft c 10 + tallyAt (barC (pr c)) 1 1

def L (g : GSem nD τ sig) : Finset ℕ := if g.1.2 = .tc then {0, 1, 2, 3} else ∅
def lv (_ : GSem nD τ sig) (i : ℕ) : ℕ := i

omit [Facts] in
theorem L_of_ne (g : GSem nD τ sig) (h : g.1.2 ≠ .tc) : L g = ∅ := if_neg h
omit [Facts] in
theorem L_tc (c : Dev nD) (sm : SemLoc sig) : L ((c : Thread nD τ), sm) = {0, 1, 2, 3} := if_pos rfl

/-- Everything owed is a TensorCore's, at an index between `i` and 3. -/
def Above (i : ℕ) (O : CellTallies nD τ sig ℕ) : Prop := ∀ g u, 0 < O g u → g.1.2 = .tc ∧ i < u ∧ u < 4

omit [Facts] in
theorem Above.zero (i : ℕ) : Above i 0 := fun _ _ h => absurd h (Nat.lt_irrefl 0)

omit [Facts] in
theorem Above.add {i : ℕ} {O O' : CellTallies nD τ sig ℕ} (h : Above i O) (h' : Above i O') : Above i (O + O') := fun g u hg => by
  have hg' : 0 < O g u + O' g u := hg
  rcases Nat.eq_zero_or_pos (O g u) with h0 | h0
  · exact h' g u (by omega)
  · exact h g u h0

omit [Facts] in
theorem Above.tally {i j n : ℕ} (c : Dev nD) (sm : SemLoc sig) (h : i < j) (h' : j < 4) : Above i (tallyAt ((c : Thread nD τ), sm) j n) := fun g u hg => by
  rw [tallyAt_apply] at hg
  by_cases hc : g = ((c : Thread nD τ), sm) ∧ u = j
  · rw [hc.1, hc.2]; exact ⟨rfl, h, h'⟩
  · rw [if_neg hc] at hg; exact absurd hg (Nat.lt_irrefl 0)

theorem above_left (c : Dev nD) : ∀ n, Above 1 (Oleft c n)
  | 0 => Above.tally _ _ (by decide) (by decide)
  | n + 1 => by
    unfold Oleft
    split
    · exact (above_left c n).add (Above.tally _ _ (by decide) (by decide))
    · exact above_left c n

omit [Facts] in
theorem Above.mono {i j : ℕ} {O : CellTallies nD τ sig ℕ} (h : Above j O) (hi : i ≤ j) : Above i O := fun g u hg =>
  ⟨(h g u hg).1, lt_of_le_of_lt hi (h g u hg).2.1, (h g u hg).2.2⟩

theorem above_all (c : Dev nD) : Above 0 (Oall c) :=
  ((above_left c 10).mono (by decide)).add (Above.tally _ _ (by decide) (by decide))

omit [Facts] in
/-- A wait at an index below everything owed is allowed. -/
theorem mayWait (c : Dev nD) (sm : SemLoc sig) {i : ℕ} (hi : i < 4) {O : CellTallies nD τ sig ℕ} (hO : Above i O) :
    (levAts L lv : sProp 𝕄) ⊢ MayWait (c : Thread nD τ) sm i O :=
  MayOwe.of_cut (L := L) (lev := lv) i
    (fun p hp => by
      rw [Finset.mem_singleton.mp hp, L_tc]
      show i ∈ ({0, 1, 2, 3} : Finset ℕ)
      have : i = 0 ∨ i = 1 ∨ i = 2 ∨ i = 3 := by omega
      rcases this with rfl | rfl | rfl | rfl <;> decide)
    (fun g u hg => by
      obtain ⟨h1, h2, h3⟩ := hO g u hg
      unfold L
      rw [if_pos h1]
      have : u = 0 ∨ u = 1 ∨ u = 2 ∨ u = 3 := by omega
      rcases this with rfl | rfl | rfl | rfl <;> decide)
    (fun p hp => by rw [Finset.mem_singleton.mp hp]; exact le_refl i)
    (fun g u hg => (hO g u hg).2.1)

/-! ## What device `c` holds of the protocol -/

/-- The cells open from launch. -/
def barCells : Finset (GSem nD τ sig) := Finset.univ.image barC
/-- The scoped cells, opened when the kernel is entered. -/
def scCells : Finset (GSem nD τ sig) :=
  (Finset.univ.image fun p : Dev nD × Fin 10 => sendC p.1 p.2) ∪ (Finset.univ.image fun p : Dev nD × Fin 10 => recvC p.1 p.2)

/-- Every cell's invariant, at the names `K`. -/
def records (K : GSem nD τ sig → ℕ) : sProp 𝕄 := bigSep (barCells ∪ scCells) fun g => cellInv ER (Rd I) (K g) g

instance records_persistent (K : GSem nD τ sig → ℕ) : BI.Persistent (records I K) := by unfold records; infer_instance

theorem inv_bar (K : GSem nD τ sig → ℕ) (c : Dev nD) : records I K ⊢ cellInv ER (Rd I) (K (barC c)) (barC c) :=
  BI.bigSep_elim (Finset.mem_union_left _ (Finset.mem_image_of_mem _ (Finset.mem_univ c)))
theorem inv_send (K : GSem nD τ sig → ℕ) (c : Dev nD) (i : Fin 10) : records I K ⊢ cellInv ER (Rd I) (K (sendC c i)) (sendC c i) :=
  BI.bigSep_elim (Finset.mem_union_right _ (Finset.mem_union_left _ (Finset.mem_image.mpr ⟨(c, i), Finset.mem_univ _, rfl⟩)))
theorem inv_recv (K : GSem nD τ sig → ℕ) (c : Dev nD) (i : Fin 10) : records I K ⊢ cellInv ER (Rd I) (K (recvC c i)) (recvC c i) :=
  BI.bigSep_elim (Finset.mem_union_right _ (Finset.mem_union_right _ (Finset.mem_image.mpr ⟨(c, i), Finset.mem_univ _, rfl⟩)))

/-- What a thread owes, whatever it has waited for. -/
def owing (c : Dev nD) (O : CellTallies nD τ sig ℕ) : sProp 𝕄 := iprop(∃ W, owes (c : Thread nD τ) O W)

abbrev 𝒱₀ : Variants := Variants.none

end Cert.KernelIdeal

end
-- ==== Proof.Load.lean ====
/-
  Loading a chunk of the activations into the staging buffer: sixteen copies, one per head, issued on one
  semaphore and then waited for.
-/
module

public import proofs.«01_k».proof.Proof.Proto
public import Idealize.ShloMosaic.Lib.Batch

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable [Facts]

local notation "𝕄" => MT nD τ sig ℕ (Elt F) ℕ UU ℕ

/-- The weakest precondition of a part of the body on device `c`. -/
abbrev wpB (c : Dev nD) {α : Type} (p : P (F := F) α) (Q : α → sProp 𝕄) : sProp 𝕄 :=
  wp frame (wpE (defs₀ (F := F)) 𝒱₀ (c : Thread nD τ) none) Set.univ p Q

/-- A proved part, followed by the rest of the program. -/
theorem wp_then (c : Dev nD) {α β : Type} {p : P (F := F) α} {k : α → P (F := F) β} {A : sProp 𝕄} {B : α → sProp 𝕄}
    (h : A ⊢ wpB c p B) (Q : β → sProp 𝕄) :
    A ⊢ iprop((∀ v, B v -∗ wpB c (k v) Q) -∗ wpB c (p >>= k) Q) := by
  unfold wpB
  iintro HA Hk
  rw [wp_bind]
  ihave H := h $$ HA
  ihave H := (wp_frame_r (Fr := frame) (wpE := wpE (defs₀ (F := F)) 𝒱₀ (c : Thread nD τ) none) (E := Set.univ) (p := p) (Q := B) (R := iprop(∀ v, B v -∗ wpB c (k v) Q))) $$ [H Hk]
  · isplitl [H]; · iexact H
    iexact Hk
  iapply (wp_mono (Fr := frame) (wpE := wpE (defs₀ (F := F)) 𝒱₀ (c : Thread nD τ) none) (E := Set.univ) (p := p)
    (fun a => show iprop(B a ∗ (∀ v, B v -∗ wpB c (k v) Q)) ⊢ wpB c (k a) Q by
      iintro ⟨HB, Hk⟩
      iapply Hk
      iexact HB))
  iexact H

/-- Sixteen statements that step an assertion indexed by the number of them done. -/
theorem wp_seq16 (c : Dev nD) (f : Fin 16 → P (F := F) PUnit) (J : ℕ → sProp 𝕄)
    (h : ∀ t : Fin 16, J t.val ⊢ wpB c (f t) fun _ => J (t.val + 1)) : J 0 ⊢ wpB c (seq16 f) fun _ => J 16 := by
  have step : ∀ (t : Fin 16) (p : P (F := F) PUnit), (J (t.val + 1) ⊢ wpB c p fun _ => J 16) → J t.val ⊢ wpB c (f t >>= fun _ => p) fun _ => J 16 :=
    fun t p hp => by
      unfold wpB
      rw [wp_bind]
      exact (h t).trans (wp_mono (Fr := frame) (wpE := wpE (defs₀ (F := F)) 𝒱₀ (c : Thread nD τ) none) (E := Set.univ) (p := f t) fun _ => hp)
  unfold seq16
  exact step 0 _ (step 1 _ (step 2 _ (step 3 _ (step 4 _ (step 5 _ (step 6 _ (step 7 _ (step 8 _ (step 9 _ (step 10 _
    (step 11 _ (step 12 _ (step 13 _ (step 14 _ (h 15)))))))))))))))

omit [FloatOps F] [Facts] in
/-- A whole buffer is sixteen disjoint windows and the rest. -/
theorem windows_eq (ℓ : Loc nD τ sig) (K : Fin 16 → Finset (Idx ℓ)) (hK : ∀ t t', t ≠ t' → Disjoint (K t) (K t')) (f : Buf (Elt F) ℓ) :
    (ℓ ↦{fullShare} f : sProp 𝕄)
      ⊣⊢ iprop((bigSep Finset.univ fun t => ℓ ↦[K t]{fullShare} f) ∗ ℓ ↦[Finset.univ \ Finset.univ.biUnion K]{fullShare} f) := by
  rw [← pointsTo_biUnion Finset.univ K (fun t _ t' _ h => hK t t' h)]
  exact pointsTo_split_subset (Finset.subset_univ _)

/-- The windows from the `j`-th on. -/
def from' (j : ℕ) : Finset (Fin 16) := Finset.univ.filter fun t => j ≤ t.val

omit [FloatOps F] [Facts] in
theorem from_split (t : Fin 16) (Φ : Fin 16 → sProp 𝕄) : bigSep (from' t.val) Φ = iprop(Φ t ∗ bigSep (from' (t.val + 1)) Φ) := by
  have h : from' t.val = insert t (from' (t.val + 1)) := by
    ext s
    simp only [from', Finset.mem_filter, Finset.mem_univ, true_and, Finset.mem_insert]
    constructor
    · intro hs
      by_cases hc : s = t
      · exact Or.inl hc
      · have : s.val ≠ t.val := fun e => hc (Fin.ext e)
        exact Or.inr (by omega)
    · rintro (rfl | hs)
      · exact le_refl _
      · omega
  rw [h, bigSep_insert (by simp [from'])]
  rfl

section
variable (nr : ℕ) [hn : Rows nr] (q : Src nr) (c : Dev nD)

/-- The staging buffer after a load: the chunk in its first rows, what was there below. -/
def staged (O : Vec F S8x512x16x128 .f32) (f : Vec F S256x2048 .f32) : Vec F S256x2048 .f32 := fun i =>
  if h : (i 0).val < nr then chunk nr q O (Shape.pair (d := ![nr, 2048]) ⟨(i 0).val, h⟩ (i 1)) else f i

/-- What the copy of head `t` leaves: its columns of the staging buffer filled, and its rows of the activations. -/
def loaded (O : Vec F S8x512x16x128 .f32) (f : Vec F S256x2048 .f32) (t : Fin 16) : sProp 𝕄 :=
  iprop(ptOn c cc0_scratch0 (stageView nr t).view.set (staged nr q O f) ∗ ptOn c main_v2 (oView nr q t).view.set O)

instance loaded_storable (O : Vec F S8x512x16x128 .f32) (f : Vec F S256x2048 .f32) (t : Fin 16) :
    BI.Storable (upEmb : UEmb _ 𝕄) (loaded nr q c O f t) := by unfold loaded; infer_instance

/-- The credit of one of the sixteen copies. -/
def ldN : ℕ := (stageView nr 0).view.dmaCredit

theorem ldN_pos : 0 < ldN nr := View.dmaCredit_pos _ (by
  rcases hn.or with rfl | rfl <;> decide)

theorem loaded_of_write (O : Vec F S8x512x16x128 .f32) (f : Vec F S256x2048 .f32) (t : Fin 16) :
    iprop(ptOn c cc0_scratch0 (stageView nr t).view.set ((stageView nr t).view.write (Elt F) f ((oView nr q t).view.read (Elt F) O) Finset.univ)
      ∗ ptOn c main_v2 (oView nr q t).view.set O) ⊢ loaded nr q c O f t := by
  unfold loaded
  refine sep_mono (Entails.of_eq (pointsTo_congr fun i hi => ?_)) .rfl
  obtain ⟨x, -, rfl⟩ := Finset.mem_map.mp hi
  refine (View.write_emb_of_mem _ _ (Finset.mem_univ _)).trans ?_
  show (oView nr q t).view.read (Elt F) O x = _
  rw [View.read_apply]
  show O ((oView nr q t).view.emb x) = _
  rw [stage_emb, o_emb]
  have h0 : (x 0).val < nr := (x 0).isLt
  have h1 : (x 1).val < 128 := (x 1).isLt
  unfold staged
  refine Eq.trans ?_ (dif_pos h0).symm
  unfold chunk
  refine congrArg O ?_
  funext a
  apply Fin.ext
  match a with
  | 0 => rfl
  | 1 => rfl
  | 2 => show t.val = (128 * t.val + (x 1).val) / 128; omega
  | 3 => show (x 1).val = (128 * t.val + (x 1).val) % 128; omega

/-- After `j` copies issued. -/
def issued (O : Vec F S8x512x16x128 .f32) (f : Vec F S256x2048 .f32) (j : ℕ) : sProp 𝕄 :=
  iprop(Transfers.Batch EC (c : Thread nD τ) (.dma cc0_scratch5.sem) 0 (ldN nr) (loaded nr q c O f) j 0
    ∗ (bigSep (from' j) fun t => ptOn c cc0_scratch0 (stageView nr t).view.set f)
    ∗ bigSep (from' j) fun t => ptOn c main_v2 (oView nr q t).view.set O)

/-- The issue of head `t`'s copy. -/
abbrev issue (t : Fin 16) : P (F := F) PUnit :=
  Prog.lift (.enqueueDma (oView nr q t) (.here (stageView nr t)) (.dma cc0_scratch5.sem)
    ((View.wordExact_bits rfl).reshape _ _) (View.wordExact_bits rfl) ⟨Or.inl rfl, trivial⟩)

/-- The wait for it. -/
abbrev await (t : Fin 16) : P (F := F) PUnit :=
  Prog.lift (.waitDma2 cc0_scratch5.sem (oView nr q t) (stageView nr t)
    ((View.wordExact_bits rfl).reshape _ _) (View.wordExact_bits rfl))

theorem wp_issue (O : Vec F S8x512x16x128 .f32) (f : Vec F S256x2048 .f32) (t : Fin 16) :
    issued nr q c O f t.val ⊢ wpB c (issue (F := F) nr q t) fun _ => issued nr q c O f (t.val + 1) := by
  unfold issued
  rw [from_split t (fun t => ptOn c cc0_scratch0 (stageView nr t).view.set f), from_split t (fun t => ptOn c main_v2 (oView nr q t).view.set O)]
  have hN : (stageView nr t).view.amount (.dma cc0_scratch5.sem : SemLoc sig) = ldN nr := rfl
  have hl := loaded_of_write nr q c O f t
  iintro ⟨HB, ⟨Hs, Hss⟩, ⟨Ho, Hoo⟩⟩
  unfold wpB issue Prog.lift
  iapply (Transfers.wp_dmaBatch EC 𝒱₀ (c : Thread nD τ) none (src := oView nr q t) (via := .same) (dst := stageView nr t)
      (sm := .dma cc0_scratch5.sem) (fs := O) (fd := f) (Sd := (stageView nr t).view.set) (D := loaded nr q c O f) (j := t.val) (u := 0) 0 (ldN nr) hN (Finset.Subset.refl _) t.isLt (Nat.zero_le _) hl) $$ [HB Hs Ho]
  · isplitl [Ho]; · iexact Ho
    isplitl [Hs]; · iexact Hs
    iexact HB
  iintro HB
  rw [wp_ret]; imodintro
  isplitl [HB]; · iexact HB
  isplitl [Hss]; · iexact Hss
  iexact Hoo

/-- After `j` waits: the last one hands everything back. -/
def awaited (O : Vec F S8x512x16x128 .f32) (f : Vec F S256x2048 .f32) (D : CellTallies nD τ sig ℕ) (j : ℕ) : sProp 𝕄 :=
  if j < 16 then iprop(Transfers.Batch EC (c : Thread nD τ) (.dma cc0_scratch5.sem) 0 (ldN nr) (loaded nr q c O f) 16 (j * ldN nr) ∗ owing c D ∗ levAts L lv)
  else iprop(bigSep Finset.univ (loaded nr q c O f) ∗ semVal ((c : Thread nD τ), .dma cc0_scratch5.sem) 0 ∗ owing c D)

theorem wp_await (O : Vec F S8x512x16x128 .f32) (f : Vec F S256x2048 .f32) (D : CellTallies nD τ sig ℕ) (hD : Above 0 D) (t : Fin 16) :
    awaited nr q c O f D t.val ⊢ wpB c (await (F := F) nr q t) fun _ => awaited nr q c O f D (t.val + 1) := by
  have hpos := ldN_pos nr
  unfold awaited owing
  rw [if_pos t.isLt]
  unfold wpB await Prog.lift
  by_cases ht : t.val + 1 < 16
  · rw [if_pos ht]
    iintro ⟨HB, ⟨%W, HO⟩, #Hlev⟩
    iapply (Transfers.wp_waitBatchO EC 𝒱₀ (c : Thread nD τ) none (dstw := stageView nr t) (N := ldN nr) 0 (by rfl)
      (by rw [← Nat.succ_mul, Nat.mul_comm (ldN nr)]; exact Nat.mul_lt_mul_of_pos_right ht hpos) (O := D) (W := W)) $$ [HB HO]
    · isplitl [HB]; · iexact HB
      isplitl [HO]; · iexact HO
      iapply (mayWait c _ (by decide) hD); iexact Hlev
    iintro ⟨HB, HO⟩
    rw [wp_ret]; imodintro
    isplitl [HB]; · rw [Nat.succ_mul]; iexact HB
    isplitl [HO]; · iexists _; iexact HO
    iexact Hlev
  · rw [if_neg ht]
    iintro ⟨HB, ⟨%W, HO⟩, #Hlev⟩
    iapply (Transfers.wp_waitBatchLastO EC 𝒱₀ (c : Thread nD τ) none (dstw := stageView nr t) (N := ldN nr) 0 (by rfl) hpos
      (n := 16) (D := loaded nr q c O f) (u := t.val * ldN nr) (by rw [← Nat.succ_mul, Nat.mul_comm (ldN nr), show t.val.succ = 16 by omega]) (O := D) (W := W)) $$ [HB HO]
    · isplitl [HB]; · iexact HB
      isplitl [HO]; · iexact HO
      iapply (mayWait c _ (by decide) hD); iexact Hlev
    iintro ⟨HD, Hv, HO⟩
    rw [wp_ret]; imodintro
    isplitl [HD]; · iexact HD
    isplitl [Hv]; · iexact Hv
    iexists _; iexact HO

theorem stage_disj (t t' : Fin 16) (h : t ≠ t') : Disjoint (stageView nr t).view.set (stageView nr t').view.set :=
  Finset.disjoint_left.mpr fun i hi hi' => by
    rw [mem_stage] at hi hi'
    exact h (Fin.ext (hi.2.symm.trans hi'.2))

theorem o_disj (t t' : Fin 16) (h : t ≠ t') : Disjoint (oView nr q t).view.set (oView nr q t').view.set :=
  Finset.disjoint_left.mpr fun i hi hi' => h ((mem_o nr q t i hi).symm.trans (mem_o nr q t' i hi'))

/-- Below the chunk the staging buffer is unchanged. -/
theorem staged_off (O : Vec F S8x512x16x128 .f32) (f : Vec F S256x2048 .f32) (i : S256x2048.Idx)
    (hi : i ∈ Finset.univ \ Finset.univ.biUnion fun t => (stageView nr t).view.set) : f i = staged nr q O f i := by
  refine (dif_neg (fun h => ?_) : staged nr q O f i = f i).symm
  have h1 : (i 1).val / 128 < 16 := by have : (i 1).val < 2048 := (i 1).isLt; omega
  have hm := (mem_stage nr ⟨(i 1).val / 128, h1⟩ i).mpr ⟨h, rfl⟩
  exact (Finset.mem_sdiff.mp hi).2 (Finset.mem_biUnion.mpr ⟨⟨(i 1).val / 128, h1⟩, Finset.mem_univ _, hm⟩)

/-- The chunk is what the first rows of the staging buffer then hold. -/
theorem staged_read (O : Vec F S8x512x16x128 .f32) (f : Vec F S256x2048 .f32) :
    ((Memref.whole cc0_scratch0 : Memref sig .tc .vmem S256x2048 .f32).access (stageRect nr)).read (Elt F) (staged nr q O f) = chunk nr q O := by
  funext x
  rw [View.read_apply]
  have hx : ((Memref.whole cc0_scratch0 : Memref sig .tc .vmem S256x2048 .f32).access (stageRect nr)).emb x
      = Shape.pair (d := ![256, 2048]) ⟨(x 0).val, row_lt_256 nr (x 0)⟩ (x 1) := idx2_ext
        (by show 0 + 1 * (x 0).val = (x 0).val; omega) (by show 0 + 1 * (x 1).val = (x 1).val; omega)
  show staged nr q O f _ = _
  rw [hx]
  exact (dif_pos (show (x 0).val < nr from (x 0).isLt)).trans (congrArg (chunk nr q O) (idx2_ext rfl rfl))

theorem loaded_all (O : Vec F S8x512x16x128 .f32) (f : Vec F S256x2048 .f32) :
    bigSep Finset.univ (loaded nr q c O f)
      = iprop((bigSep Finset.univ fun t : Fin 16 => ptOn c cc0_scratch0 (stageView nr t).view.set (staged nr q O f))
          ∗ bigSep Finset.univ fun t : Fin 16 => ptOn c main_v2 (oView nr q t).view.set O) := bigSep_sep' _ _ _

/-- Loading a chunk. -/
theorem wp_loadChunk (O : Vec F S8x512x16x128 .f32) (D : CellTallies nD τ sig ℕ) (hD : Above 0 D) :
    iprop(pt c main_v2 O ∗ (∃ f : Vec F S256x2048 .f32, pt c cc0_scratch0 f) ∗ semVal ((c : Thread nD τ), .dma cc0_scratch5.sem) 0 ∗ owing c D ∗ levAts L lv)
      ⊢ wpB c (loadChunk (F := F) nr q) fun _ => iprop(pt c main_v2 O
        ∗ (∃ f : Vec F S256x2048 .f32, ⌜((Memref.whole cc0_scratch0 : Memref sig .tc .vmem S256x2048 .f32).access (stageRect nr)).read (Elt F) f = chunk nr q O⌝ ∗ pt c cc0_scratch0 f)
        ∗ semVal ((c : Thread nD τ), .dma cc0_scratch5.sem) 0 ∗ owing c D) := by
  iintro ⟨HO, ⟨%f, Hs⟩, Hv, Hw, #Hlev⟩
  ihave HO := (windows_eq (F := F) ((c : Thread nD τ).loc main_v2) (fun t => (oView nr q t).view.set) (o_disj nr q) O).1 $$ HO
  ihave Hs := (windows_eq (F := F) ((c : Thread nD τ).loc cc0_scratch0) (fun t => (stageView nr t).view.set) (stage_disj nr) f).1 $$ Hs
  icases HO with ⟨HOw, HOr⟩
  icases Hs with ⟨Hsw, Hsr⟩
  unfold loadChunk
  imod (Transfers.batch_alloc' (Lvl := ℕ) EC (c : Thread nD τ) 0 (ldN nr) (loaded nr q c O f) (sm := .dma cc0_scratch5.sem) (E := Set.univ)) $$ Hv with HB
  iapply (wp_then c (wp_seq16 c (issue (F := F) nr q) (issued nr q c O f) (wp_issue nr q c O f)) _) $$ [HB HOw Hsw]
  · unfold issued
    isplitl [HB]; · iexact HB
    have h0 : from' 0 = Finset.univ := Finset.filter_true_of_mem fun _ _ => Nat.zero_le _
    rw [h0]
    isplitl [Hsw]; · iexact Hsw
    iexact HOw
  iintro %u H
  have h16 : from' 16 = ∅ := Finset.filter_false_of_mem fun t _ => by omega
  unfold issued
  rw [h16, bigSep_empty, bigSep_empty]
  icases H with ⟨HB, -, -⟩
  ihave H := (wp_seq16 c (await (F := F) nr q) (awaited nr q c O f D) (wp_await nr q c O f D hD)) $$ [HB Hw]
  · unfold awaited
    rw [if_pos (by decide), Nat.zero_mul]
    isplitl [HB]; · iexact HB
    isplitl [Hw]; · iexact Hw
    iexact Hlev
  iapply (wp_mono (Fr := frame) (wpE := wpE (defs₀ (F := F)) 𝒱₀ (c : Thread nD τ) none) (E := Set.univ)
    (p := seq16 (await (F := F) nr q)) (Q := fun _ => iprop(awaited nr q c O f D 16
      ∗ (ptOn c main_v2 (Finset.univ \ Finset.univ.biUnion fun t => (oView nr q t).view.set) O)
      ∗ ptOn c cc0_scratch0 (Finset.univ \ Finset.univ.biUnion fun t => (stageView nr t).view.set) f)) (fun _ => ?_))
  · unfold awaited
    rw [if_neg (by decide)]
    iintro ⟨⟨HD, Hv, Hw⟩, HOr, Hsr⟩
    ihave HD := (Entails.of_eq (loaded_all nr q c O f)) $$ HD
    icases HD with ⟨Hsw, HOw⟩
    isplitl [HOw HOr]
    · iapply (windows_eq (F := F) ((c : Thread nD τ).loc main_v2) (fun t => (oView nr q t).view.set) (o_disj nr q) O).2
      isplitl [HOw]; · iexact HOw
      iexact HOr
    isplitl [Hsw Hsr]
    · iexists (staged nr q O f)
      isplitr; · ipureintro; exact staged_read nr q O f
      iapply (windows_eq (F := F) ((c : Thread nD τ).loc cc0_scratch0) (fun t => (stageView nr t).view.set) (stage_disj nr) (staged nr q O f)).2
      isplitl [Hsw]; · iexact Hsw
      iapply (Entails.of_eq (pointsTo_congr (staged_off nr q O f)))
      iexact Hsr
    isplitl [Hv]; · iexact Hv
    iexact Hw
  · iapply (wp_frame_r (Fr := frame) (wpE := wpE (defs₀ (F := F)) 𝒱₀ (c : Thread nD τ) none) (E := Set.univ) (p := seq16 (await (F := F) nr q))
      (Q := fun _ => awaited nr q c O f D 16))
    isplitl [H]; · iexact H
    isplitl [HOr]; · iexact HOr
    iexact Hsr

end

end Cert.KernelIdeal

end
-- ==== Proof.Local.lean ====
/-
  What each part of the body does on one device, away from the protocol: the products, the send slots, and the
  copies of finished rows to the result.
-/
module

public import proofs.«01_k».proof.Proof.Load
public import Idealize.ShloMosaic.Lib.Pipeline.Value
public import Idealize.ShloMosaic.Lib.Batch

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable [Facts]

local notation "𝕄" => MT nD τ sig ℕ (Elt F) ℕ UU ℕ

/-- The product of a chunk with the device's weights. -/
theorem wp_product (nr : ℕ) [hn : Rows nr] (c : Dev nD) (x : FVec F ⟨2, ![nr, 2048]⟩ .f32) (w : FVec F S2048x4096 .bf16) :
    iprop((∃ f : Vec F S256x2048 .f32, ⌜((Memref.whole cc0_scratch0 : Memref sig .tc .vmem S256x2048 .f32).access (stageRect nr)).read (Elt F) f = x⌝ ∗ pt c cc0_scratch0 f)
        ∗ (∃ f : Vec F S256x2048 .bf16, pt c cc0_scratch1 f) ∗ pt c cc0_stg0_0 w)
      ⊢ wpB c (product (F := F) nr (Memref.whole cc0_stg0_0)) fun v => iprop(⌜v = mulRows nr (castRowsBf nr x) w⌝
        ∗ (∃ f : Vec F S256x2048 .f32, pt c cc0_scratch0 f) ∗ (∃ f : Vec F S256x2048 .bf16, pt c cc0_scratch1 f) ∗ pt c cc0_stg0_0 w) := by
  iintro ⟨⟨%f, %hf, H0⟩, ⟨%g, H1⟩, Hw⟩
  unfold wpB product
  simp only [Prog.lift, Prog.bind_op, Prog.bind_ret, Prog.pure_eq_ret]
  iapply (wp_load_rect 𝒱₀ (c : Thread nD τ) none Set.univ (m := (Memref.whole cc0_scratch0 : Memref sig .tc .vmem S256x2048 .f32)) (r := stageRect nr)
    (S := Finset.univ) (f := f) (Finset.subset_univ _)) $$ H0
  iintro H0
  iapply (wp_load_rect 𝒱₀ (c : Thread nD τ) none Set.univ (m := (Memref.whole cc0_scratch1 : Memref sig .tc .vmem S256x2048 .bf16)) (r := stageRect nr)
    (S := Finset.univ) (f := g) (Finset.subset_univ _)) $$ H1
  iintro H1
  iapply (wp_store 𝒱₀ (c : Thread nD τ) none Set.univ (m := (Memref.whole cc0_scratch1 : Memref sig .tc .vmem S256x2048 .bf16)) (r := stageRect nr)
    (S := Finset.univ) (f := g) (Mk := Finset.univ) (Finset.subset_univ _)) $$ H1
  iintro H1
  iapply (wp_load_rect 𝒱₀ (c : Thread nD τ) none Set.univ (m := (Memref.whole cc0_scratch1 : Memref sig .tc .vmem S256x2048 .bf16)) (r := stageRect nr)
    (S := Finset.univ) (Finset.subset_univ _)) $$ H1
  iintro H1
  iapply (wp_load_rect 𝒱₀ (c : Thread nD τ) none Set.univ (m := (Memref.whole cc0_stg0_0 : Memref sig .tc .vmem S2048x4096 .bf16))
    (r := Rect.unit (s := S2048x4096) ![0, 0] S2048x4096.size inb_S2048x4096_S2048x4096_0_0) (S := Finset.univ) (f := w) (Finset.subset_univ _)) $$ Hw
  iintro Hw
  rw [wp_ret]; imodintro
  isplitr
  · ipureintro
    rw [View.read_write_univ, hf]
    exact congrArg (mulRows nr (castRowsBf nr x)) (Memref.read_access_unit_zero (Elt F) cc0_stg0_0 (by funext a; match a with | 0 => rfl | 1 => rfl) _ w)
  isplitl [H0]; · iexists f; iexact H0
  isplitl [H1]; · iexists _; iexact H1
  iexact Hw

/-- What a piece puts in its slot is what its copy reads. -/
theorem packed_read (nr : ℕ) [hn : Rows nr] (s : Fin 4) (f : Vec F S4x256x4096 .bf16) (p : FVec F ⟨2, ![nr, 4096]⟩ .f32) :
    (sendView nr s).view.read (Elt F)
      (((Memref.whole cc0_scratch2 : Memref sig .tc .vmem S4x256x4096 .bf16).access (sendRect nr s)).write (Elt F) f (packRows nr p) Finset.univ)
      = truncf .bf16 p bitsLt_bf16_f32 := by
  have h := View.read_write_univ (Val := Elt F) (v := (Memref.whole cc0_scratch2 : Memref sig .tc .vmem S4x256x4096 .bf16).access (sendRect nr s)) f (packRows nr p)
  refine Eq.trans (b := shapeCast ⟨2, ![nr, 4096]⟩ (packRows nr p) (castRows' nr)) ?_ (shapeCast_shapeCast _ _ _)
  refine Eq.trans ?_ (congrArg (fun v : FVec F ⟨3, ![1, nr, 4096]⟩ .bf16 => shapeCast ⟨2, ![nr, 4096]⟩ v (castRows' nr)) h)
  rfl

theorem slot_sub (nr : ℕ) [hn : Rows nr] (s : Fin 4) : slotWin s nr ⊆ slotWin s 256 := fun i hi => by
  obtain ⟨h, h0, h1⟩ := Finset.mem_filter.mp hi
  exact Finset.mem_filter.mpr ⟨h, h0, lt_of_lt_of_le h1 (Rows.le nr)⟩

theorem access_send (nr : ℕ) [hn : Rows nr] (s : Fin 4) :
    ((Memref.whole cc0_scratch2 : Memref sig .tc .vmem S4x256x4096 .bf16).access (sendRect nr s)).set ⊆ slotWin s 256 := fun i hi => by
  obtain ⟨x, -, rfl⟩ := Finset.mem_map.mp hi
  have h0 : (x 0).val < 1 := (x 0).isLt
  have h1 : (x 1).val < nr := (x 1).isLt
  have := Rows.le nr
  refine Finset.mem_filter.mpr ⟨Finset.mem_univ _, ?_, ?_⟩
  · show s.val + 1 * (x 0).val = s.val; omega
  · show 0 + 1 * (x 1).val < 256; omega

/-- Filling a send slot. -/
theorem wp_fillSlot (nr : ℕ) [hn : Rows nr] (c : Dev nD) (s : Fin 4) (x : FVec F ⟨2, ![nr, 2048]⟩ .f32) (w : FVec F S2048x4096 .bf16) :
    iprop(((∃ f : Vec F S256x2048 .f32, ⌜((Memref.whole cc0_scratch0 : Memref sig .tc .vmem S256x2048 .f32).access (stageRect nr)).read (Elt F) f = x⌝ ∗ pt c cc0_scratch0 f)
        ∗ (∃ f : Vec F S256x2048 .bf16, pt c cc0_scratch1 f) ∗ pt c cc0_stg0_0 w)
        ∗ (∃ f : Vec F S4x256x4096 .bf16, ptOn c cc0_scratch2 (slotWin s 256) f))
      ⊢ wpB c (fillSlot (F := F) nr (Memref.whole cc0_stg0_0) s) fun _ => iprop(
        ((∃ f : Vec F S256x2048 .f32, pt c cc0_scratch0 f) ∗ (∃ f : Vec F S256x2048 .bf16, pt c cc0_scratch1 f) ∗ pt c cc0_stg0_0 w)
        ∗ (∃ f : Vec F S4x256x4096 .bf16, ⌜(sendView nr s).view.read (Elt F) f = truncf .bf16 (mulRows nr (castRowsBf nr x) w) bitsLt_bf16_f32⌝
            ∗ ptOn c cc0_scratch2 (slotWin s 256) f)) := by
  iintro ⟨H, ⟨%f, Hs⟩⟩
  unfold fillSlot
  iapply (wp_then c (wp_product nr c x w) _) $$ H
  iintro %p ⟨%hp, H⟩
  subst hp
  unfold wpB
  simp only [Prog.lift, Prog.bind_op, Prog.bind_ret, Prog.pure_eq_ret]
  iapply (wp_load_rect 𝒱₀ (c : Thread nD τ) none Set.univ (m := (Memref.whole cc0_scratch2 : Memref sig .tc .vmem S4x256x4096 .bf16)) (r := sendRect nr s)
    (S := slotWin s 256) (f := f) (access_send nr s)) $$ Hs
  iintro Hs
  iapply (wp_store 𝒱₀ (c : Thread nD τ) none Set.univ (m := (Memref.whole cc0_scratch2 : Memref sig .tc .vmem S4x256x4096 .bf16)) (r := sendRect nr s)
    (S := slotWin s 256) (f := f) (Mk := Finset.univ) (access_send nr s)) $$ Hs
  iintro Hs
  rw [wp_ret]; imodintro
  isplitl [H]; · iexact H
  iexists _
  isplitr; · ipureintro; exact packed_read nr s f _
  iexact Hs

omit [FloatOps F] [Facts] in
theorem one_elim (X : sProp 𝕄) : (bigSep Finset.univ fun _ : Fin 1 => X) ⊢ X :=
  BI.bigSep_elim (Φ := fun _ : Fin 1 => X) (Finset.mem_univ (0 : Fin 1))

/-- Copying rows of the accumulator out. -/
theorem wp_copyOut (nr : ℕ) [hn : Rows nr] (c : Dev nD) (src : Memref sig .tc .vmem ⟨2, ![nr, 4096]⟩ .f32) (o : OutPlace nr)
    (fs : Buf (Elt F) (src.view.loc (c : Thread nD τ))) (f : Vec F S4x512x4096 .f32) (D : CellTallies nD τ sig ℕ) (hD : Above 0 D) :
    iprop((src.view.loc (c : Thread nD τ) ↦[src.view.set]{fullShare} fs) ∗ pt c main_v3 f ∗ semVal ((c : Thread nD τ), .dma cc0_scratch6.sem) 0 ∗ owing c D ∗ levAts L lv)
      ⊢ wpB c (copyOut (F := F) nr src o) fun _ => iprop((src.view.loc (c : Thread nD τ) ↦[src.view.set]{fullShare} fs)
        ∗ pt c main_v3 ((outView nr o).view.write (Elt F) f (src.view.read (Elt F) fs) Finset.univ)
        ∗ semVal ((c : Thread nD τ), .dma cc0_scratch6.sem) 0 ∗ owing c D) := by
  unfold owing
  iintro ⟨Hs, Ho, Hv, ⟨%W, Hw⟩, #Hlev⟩
  unfold wpB copyOut
  simp only [Prog.lift, Prog.bind_op, Prog.bind_ret, Prog.pure_eq_ret]
  have hpos : 0 < (outView nr o).view.dmaCredit := View.dmaCredit_pos _ (by
    rcases hn.or with rfl | rfl <;> decide)
  imod (Transfers.batch_alloc' (Lvl := ℕ) EC (c : Thread nD τ) 0 ((outView nr o).view.dmaCredit)
    (fun _ : Fin 1 => iprop((pt c main_v3 ((outView nr o).view.write (Elt F) f (src.view.read (Elt F) fs) Finset.univ) : sProp 𝕄)
      ∗ (src.view.loc (c : Thread nD τ) ↦[src.view.set]{fullShare} fs))) (sm := .dma cc0_scratch6.sem) (E := Set.univ)) $$ Hv with HB
  iapply (Transfers.wp_dmaBatch EC 𝒱₀ (c : Thread nD τ) none (src := src) (via := .same) (dst := outView nr o)
      (sm := .dma cc0_scratch6.sem) (fs := fs) (fd := f) (Sd := Finset.univ)
      (D := fun _ : Fin 1 => iprop((pt c main_v3 ((outView nr o).view.write (Elt F) f (src.view.read (Elt F) fs) Finset.univ) : sProp 𝕄)
        ∗ (src.view.loc (c : Thread nD τ) ↦[src.view.set]{fullShare} fs))) (j := 0) (u := 0) 0
      ((outView nr o).view.dmaCredit) rfl (Finset.subset_univ _) (by decide) (Nat.zero_le _) .rfl) $$ [HB Hs Ho]
  · isplitl [Hs]; · iexact Hs
    isplitl [Ho]; · iexact Ho
    iexact HB
  iintro HB
  iapply (Transfers.wp_waitBatchLastO EC 𝒱₀ (c : Thread nD τ) none (dstw := outView nr o) (N := (outView nr o).view.dmaCredit) 0 rfl hpos
      (n := 1) (u := 0) (D := fun _ : Fin 1 => iprop((pt c main_v3 ((outView nr o).view.write (Elt F) f (src.view.read (Elt F) fs) Finset.univ) : sProp 𝕄)
        ∗ (src.view.loc (c : Thread nD τ) ↦[src.view.set]{fullShare} fs))) (by rw [Nat.zero_add, Nat.mul_one]) (O := D) (W := W)) $$ [HB Hw]
  · isplitl [HB]; · iexact HB
    isplitl [Hw]; · iexact Hw
    iapply (mayWait c _ (by decide) hD); iexact Hlev
  iintro ⟨HD, Hv, HO⟩
  rw [wp_ret]; imodintro
  ihave HD := (one_elim _) $$ HD
  icases HD with ⟨Ho, Hs⟩
  isplitl [Hs]; · iexact Hs
  isplitl [Ho]; · iexact Ho
  isplitl [Hv]; · iexact Hv
  iexists _; iexact HO

theorem access_recv (nr : ℕ) [hn : Rows nr] (q : Place nr) :
    ((Memref.whole cc0_scratch3 : Memref sig .tc .vmem S8x256x4096 .bf16).access (recvRect nr q)).set ⊆ recvWin q.c q.r0 nr := fun i hi => by
  obtain ⟨x, -, rfl⟩ := Finset.mem_map.mp hi
  have h0 : (x 0).val < 1 := (x 0).isLt
  have h1 : (x 1).val < nr := (x 1).isLt
  refine Finset.mem_filter.mpr ⟨Finset.mem_univ _, ?_, ?_, ?_⟩
  · show q.c.val + 1 * (x 0).val = q.c.val; omega
  · show q.r0 ≤ q.r0 + 1 * (x 1).val; omega
  · show q.r0 + 1 * (x 1).val < q.r0 + nr; omega

/-- What the receive buffer holds at a place. -/
abbrev at3 (nr : ℕ) [hn : Rows nr] (q : Place nr) (g : Vec F S8x256x4096 .bf16) : FVec F ⟨3, ![1, nr, 4096]⟩ .bf16 :=
  ((Memref.whole cc0_scratch3 : Memref sig .tc .vmem S8x256x4096 .bf16).access (recvRect nr q)).read (Elt F) g

/-- The whole-chunk case of a finish. -/
theorem wp_finish (c : Dev nD) (p : FVec F S256x4096 .f32) (q : Place 256) (o : OutPlace 256) (g : Vec F S8x256x4096 .bf16)
    (f : Vec F S4x512x4096 .f32) (D : CellTallies nD τ sig ℕ) (hD : Above 0 D) :
    iprop(ptOn c cc0_scratch3 (recvWin q.c q.r0 256) g ∗ (∃ a : Vec F S256x4096 .f32, pt c cc0_scratch4 a) ∗ pt c main_v3 f
        ∗ semVal ((c : Thread nD τ), .dma cc0_scratch6.sem) 0 ∗ owing c D ∗ levAts L lv)
      ⊢ wpB c (finish (F := F) p q o) fun _ => iprop(ptOn c cc0_scratch3 (recvWin q.c q.r0 256) g ∗ (∃ a : Vec F S256x4096 .f32, pt c cc0_scratch4 a)
        ∗ pt c main_v3 ((outView 256 o).view.write (Elt F) f (addf p (widen 256 (at3 256 q g))) Finset.univ)
        ∗ semVal ((c : Thread nD τ), .dma cc0_scratch6.sem) 0 ∗ owing c D) := by
  iintro ⟨Hr, ⟨%a, Ha⟩, Ho, Hv, Hw, #Hlev⟩
  unfold wpB finish readRecv
  simp only [Prog.lift, Prog.bind_op, Prog.bind_ret, Prog.pure_eq_ret]
  iapply (wp_load_rect 𝒱₀ (c : Thread nD τ) none Set.univ (m := (Memref.whole cc0_scratch3 : Memref sig .tc .vmem S8x256x4096 .bf16)) (r := recvRect 256 q)
    (S := recvWin q.c q.r0 256) (f := g) (access_recv 256 q)) $$ Hr
  iintro Hr
  iapply (wp_load_rect 𝒱₀ (c : Thread nD τ) none Set.univ (m := accWhole)
    (r := Rect.unit (s := S256x4096) ![0, 0] S256x4096.size inb_S256x4096_S256x4096_0_0) (S := Finset.univ) (f := a) (Finset.subset_univ _)) $$ Ha
  iintro Ha
  iapply (wp_store 𝒱₀ (c : Thread nD τ) none Set.univ (m := accWhole)
    (r := Rect.unit (s := S256x4096) ![0, 0] S256x4096.size inb_S256x4096_S256x4096_0_0) (S := Finset.univ) (f := a) (Mk := Finset.univ) (Finset.subset_univ _)) $$ Ha
  iintro Ha
  have hz : (![0, 0] : Fin 2 → ℕ) = fun _ => 0 := by funext a; match a with | 0 => rfl | 1 => rfl
  have hs : (accWhole : Memref sig .tc .vmem S256x4096 .f32).view.set = Finset.univ := by
    ext i; exact ⟨fun _ => Finset.mem_univ _, fun _ => Finset.mem_map.mpr ⟨i, Finset.mem_univ _, rfl⟩⟩
  ihave H := (wp_copyOut 256 c accWhole o
    (((accWhole : Memref sig .tc .vmem S256x4096 .f32).access (Rect.unit (s := S256x4096) ![0, 0] S256x4096.size inb_S256x4096_S256x4096_0_0)).write (Elt F) a
      (shapeCast S256x4096 (addf p (widen 256 (at3 256 q g))) shapeCasts_S256x4096_S256x4096) Finset.univ) f D hD) $$ [Ha Ho Hv Hw]
  · rw [hs]
    isplitl [Ha]; · iexact Ha
    isplitl [Ho]; · iexact Ho
    isplitl [Hv]; · iexact Hv
    isplitl [Hw]; · iexact Hw
    iexact Hlev
  ihave H := (wp_frame_r (Fr := frame) (wpE := wpE (defs₀ (F := F)) 𝒱₀ (c : Thread nD τ) none) (E := Set.univ) (p := copyOut 256 accWhole o)
    (R := ptOn c cc0_scratch3 (recvWin q.c q.r0 256) g)) $$ [H Hr]
  · isplitl [H]; · iexact H
    iexact Hr
  iapply (wp_mono (Fr := frame) (wpE := wpE (defs₀ (F := F)) 𝒱₀ (c : Thread nD τ) none) (E := Set.univ) (p := copyOut 256 accWhole o) (fun _ => ?_)) $$ H
  rw [hs]
  iintro ⟨⟨Ha, Ho, Hv, Hw⟩, Hr⟩
  isplitl [Hr]; · iexact Hr
  isplitl [Ha]; · iexists _; iexact Ha
  isplitl [Ho]
  · have he := Memref.write_access_unit_zero_univ (Elt F) cc0_scratch4 hz inb_S256x4096_S256x4096_0_0 a
      (shapeCast S256x4096 (addf p (widen 256 (at3 256 q g))) shapeCasts_S256x4096_S256x4096)
    iapply (Entails.of_eq (congrArg (fun v : Vec F S256x4096 .f32 => (pt c main_v3 ((outView 256 o).view.write (Elt F) f v Finset.univ) : sProp 𝕄))
      (he.trans (shapeCast_self _ _))))
    iexact Ho
  isplitl [Hv]; · iexact Hv
  iexact Hw

/-- The half-chunk case of a finish. -/
theorem wp_finishHalf (c : Dev nD) (p : FVec F S256x4096 .f32) (r : Fin 2) (q : Place 128) (o : OutPlace 128) (g : Vec F S8x256x4096 .bf16)
    (f : Vec F S4x512x4096 .f32) (D : CellTallies nD τ sig ℕ) (hD : Above 0 D) :
    iprop(ptOn c cc0_scratch3 (recvWin q.c q.r0 128) g ∗ (∃ a : Vec F S256x4096 .f32, pt c cc0_scratch4 a) ∗ pt c main_v3 f
        ∗ semVal ((c : Thread nD τ), .dma cc0_scratch6.sem) 0 ∗ owing c D ∗ levAts L lv)
      ⊢ wpB c (finishHalf (F := F) p r q o) fun _ => iprop(ptOn c cc0_scratch3 (recvWin q.c q.r0 128) g ∗ (∃ a : Vec F S256x4096 .f32, pt c cc0_scratch4 a)
        ∗ pt c main_v3 ((outView 128 o).view.write (Elt F) f
            (addf (extractStridedSlice S128x4096 ![128 * r.val, 0] p (sliceAcc r)) (widen 128 (at3 128 q g))) Finset.univ)
        ∗ semVal ((c : Thread nD τ), .dma cc0_scratch6.sem) 0 ∗ owing c D) := by
  iintro ⟨Hr, ⟨%a, Ha⟩, Ho, Hv, Hw, #Hlev⟩
  unfold wpB finishHalf readRecv
  simp only [Prog.lift, Prog.bind_op, Prog.bind_ret, Prog.pure_eq_ret]
  iapply (wp_load_rect 𝒱₀ (c : Thread nD τ) none Set.univ (m := (Memref.whole cc0_scratch3 : Memref sig .tc .vmem S8x256x4096 .bf16)) (r := recvRect 128 q)
    (S := recvWin q.c q.r0 128) (f := g) (access_recv 128 q)) $$ Hr
  iintro Hr
  iapply (wp_load_rect 𝒱₀ (c : Thread nD τ) none Set.univ (m := accWhole)
    (r := accRect r) (S := Finset.univ) (f := a) (Finset.subset_univ _)) $$ Ha
  iintro Ha
  iapply (wp_store 𝒱₀ (c : Thread nD τ) none Set.univ (m := accWhole)
    (r := accRect r) (S := Finset.univ) (f := a) (Mk := Finset.univ) (Finset.subset_univ _)) $$ Ha
  iintro Ha
  ihave Ha := (pointsTo_split_subset (Finset.subset_univ (accHalf r).view.set)).1 $$ Ha
  icases Ha with ⟨Ha, Ha'⟩
  ihave H := (wp_copyOut 128 c (accHalf r) o
    (((accWhole : Memref sig .tc .vmem S256x4096 .f32).access (accRect r)).write (Elt F) a
      (shapeCast S128x4096 (addf (extractStridedSlice S128x4096 ![128 * r.val, 0] p (sliceAcc r)) (widen 128 (at3 128 q g))) shapeCasts_S128x4096_S128x4096) Finset.univ) f D hD) $$ [Ha Ho Hv Hw]
  · isplitl [Ha]; · iexact Ha
    isplitl [Ho]; · iexact Ho
    isplitl [Hv]; · iexact Hv
    isplitl [Hw]; · iexact Hw
    iexact Hlev
  ihave H := (wp_frame_r (Fr := frame) (wpE := wpE (defs₀ (F := F)) 𝒱₀ (c : Thread nD τ) none) (E := Set.univ) (p := copyOut 128 (accHalf r) o)
    (R := iprop(ptOn c cc0_scratch3 (recvWin q.c q.r0 128) g ∗ ptOn c cc0_scratch4 (Finset.univ \ (accHalf r).view.set)
      (((accWhole : Memref sig .tc .vmem S256x4096 .f32).access (accRect r)).write (Elt F) a
      (shapeCast S128x4096 (addf (extractStridedSlice S128x4096 ![128 * r.val, 0] p (sliceAcc r)) (widen 128 (at3 128 q g))) shapeCasts_S128x4096_S128x4096) Finset.univ)))) $$ [H Hr Ha']
  · isplitl [H]; · iexact H
    isplitl [Hr]; · iexact Hr
    iexact Ha'
  iapply (wp_mono (Fr := frame) (wpE := wpE (defs₀ (F := F)) 𝒱₀ (c : Thread nD τ) none) (E := Set.univ) (p := copyOut 128 (accHalf r) o) (fun _ => ?_)) $$ H
  iintro ⟨⟨Ha, Ho, Hv, Hw⟩, Hr, Ha'⟩
  isplitl [Hr]; · iexact Hr
  isplitl [Ha Ha']
  · iexists _
    iapply (pointsTo_split_subset (Finset.subset_univ (accHalf r).view.set)).2
    isplitl [Ha]; · iexact Ha
    iexact Ha'
  isplitl [Ho]
  · have he := View.read_write_univ (Val := Elt F) (v := (accWhole : Memref sig .tc .vmem S256x4096 .f32).access (accRect r)) a
      (shapeCast S128x4096 (addf (extractStridedSlice S128x4096 ![128 * r.val, 0] p (sliceAcc r)) (widen 128 (at3 128 q g))) shapeCasts_S128x4096_S128x4096)
    iapply (Entails.of_eq (congrArg (fun v : Vec F S128x4096 .f32 => (pt c main_v3 ((outView 128 o).view.write (Elt F) f v Finset.univ) : sProp 𝕄))
      (he.trans (shapeCast_self _ _))))
    iexact Ho
  isplitl [Hv]; · iexact Hv
  iexact Hw

end Cert.KernelIdeal

end
-- ==== Proof.Talk.lean ====
/-
  What each statement of the body that talks to the peer does: the barrier, the pushes, and the waits for them.
-/
module

public import proofs.«01_k».proof.Proof.Local
public import Idealize.ShloMosaic.Lib.Batch

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable [Facts]

local notation "𝕄" => MT nD τ sig ℕ (Elt F) ℕ UU ℕ

variable (I : Inputs F) (K : GSem nD τ sig → ℕ)

theorem expect_bar (c : Dev nD) (r : ℕ) (hr : r < 2) : (Rd I).expect (barC c) r = 1 := expect_eq I c _ r hr
theorem expect_send (c : Dev nD) (i : Fin 10) : (Rd I).expect (sendC c i) 0 = cr i := by
  have h := expect_eq I c (.dma (sendSem i)) 0 (by rw [role_send]; exact Nat.one_pos)
  rwa [role_send] at h
theorem expect_recv (c : Dev nD) (i : Fin 10) : (Rd I).expect (recvC c i) 0 = cr i := by
  have h := expect_eq I c (.dma (recvSem i)) 0 (by rw [role_recv]; exact Nat.one_pos)
  rwa [role_recv] at h

theorem rest_bar (c : Dev nD) (r : ℕ) (hr : r < 2) :
    bigSep ((Rd I).duties (barC c) r \ ∅) (fun u => (Rd I).payload (barC c) r u) = pay I c r .bar := rest_eq I c _ r hr
theorem rest_send (c : Dev nD) (i : Fin 10) :
    bigSep ((Rd I).duties (sendC c i) 0 \ ∅) (fun u => (Rd I).payload (sendC c i) 0 u) = sendPay c i := by
  have h := rest_eq I c (.dma (sendSem i)) 0 (by rw [role_send]; exact Nat.one_pos)
  rwa [role_send] at h
theorem rest_recv (c : Dev nD) (i : Fin 10) :
    bigSep ((Rd I).duties (recvC c i) 0 \ ∅) (fun u => (Rd I).payload (recvC c i) 0 u) = recvPay I c i := by
  have h := rest_eq I c (.dma (recvSem i)) 0 (by rw [role_recv]; exact Nat.one_pos)
  rwa [role_recv] at h

theorem payload_bar (c : Dev nD) (r : ℕ) : (Rd I).payload (barC c) r () = pay I c r .bar := rfl
theorem payload_send (c : Dev nD) (i : Fin 10) : (Rd I).payload (sendC c i) 0 () = sendPay c i := by
  show pay I c 0 (role (.dma (sendSem i))) = _
  rw [role_send]; rfl
theorem payload_recv (c : Dev nD) (i : Fin 10) : (Rd I).payload (recvC c i) 0 () = recvPay I c i := by
  show pay I c 0 (role (.dma (recvSem i))) = _
  rw [role_recv]; rfl
theorem amount_send (c : Dev nD) (i : Fin 10) : (Rd I).amount (sendC c i) 0 () = cr i := by
  show amt (role (.dma (sendSem i))) = _
  rw [role_send]; rfl
theorem amount_recv (c : Dev nD) (i : Fin 10) : (Rd I).amount (recvC c i) 0 () = cr i := by
  show amt (role (.dma (recvSem i))) = _
  rw [role_recv]; rfl

/-- The barrier's two statements at the semaphore they name. -/
theorem barrier_eq (dev : Dev nD) :
    barrier (F := F) dev = .op (.semSignal ((dev : Dev nD) : Thread nD τ) barS 1) fun _ => .op (.semWait barS 1) .ret := rfl

/-- Signalling the peer's barrier cell and waiting for a unit on the own one. -/
theorem wp_barrier (c dev : Dev nD) (hdev : dev = pr c) (r : ℕ) (hr : r < 2) (i : ℕ) (hi : i < 4) (O : CellTallies nD τ sig ℕ) (hO : Above i O) :
    iprop(records I K ∗ levAts L lv ∗ owing c (O + tallyAt (barC (pr c)) i 1) ∗ dutyTok ER (barC (pr c)) r () ∗ pay I (pr c) r .bar
        ∗ reached ER (barC (pr c)) r ∗ cred (tallyAt (barC c) i 1) ∗ atPos ER (barC c) r ∅ 0)
      ⊢ wpB c (barrier (F := F) dev) fun _ => iprop(owing c O ∗ atPos ER (barC c) (r + 1) ∅ 0 ∗ reached ER (barC c) (r + 1) ∗ pay I c r .bar) := by
  subst hdev
  unfold owing
  iintro ⟨#HI, #Hlev, ⟨%W, Hw⟩, Ht, Hp, #Hr, Hc, Hat⟩
  unfold wpB
  rw [barrier_eq]
  iapply (Rounds.wp_signal 𝒱₀ ER (Rd I) (c : Thread nD τ) none (dst := ((pr c : Dev nD) : Thread nD τ)) (sem := barS) (r := r) (d := ()) (κ := K (barC (pr c)))
      (duty_mem I (pr c) (.reg barS) r hr) (k' := 1) rfl i O rfl (W := W)) $$ [Hw Ht Hp]
  · isplitr; · iapply (inv_bar I K (pr c)); iexact HI
    isplitl [Hw]; · iexact Hw
    isplitl [Ht]; · iexact Ht
    isplitl [Hp]; · iapply (Entails.of_eq (payload_bar I (pr c) r).symm); iexact Hp
    iexact Hr
  iintro Hw
  iapply (Rounds.wp_wait_rest_token 𝒱₀ ER (Rd I) (c : Thread nD τ) none (κ := K (barC c))
      (wpE_semWait_eq 𝒱₀ (c : Thread nD τ) none Set.univ) (Set.mem_univ _) i (O := O) (W := W) (R := r) (m := 0) (T := ∅)
      (k' := 1) (by rw [expect_bar I c r hr])) $$ [Hc Hw Hat]
  · isplitr; · iapply (inv_bar I K c); iexact HI
    isplitl [Hc]; · iexact Hc
    isplitl [Hw]; · iexact Hw
    isplitr; · iapply (mayWait c _ hi hO); iexact Hlev
    iexact Hat
  iintro ⟨Hw, Hat, #Hr', Hpay⟩
  ihave Hp := (Entails.of_eq (rest_bar I c r hr)) $$ Hpay
  rw [wp_ret]; imodintro
  isplitl [Hw]; · iexists _; iexact Hw
  isplitl [Hat]; · iexact Hat
  isplitr; · iexact Hr'
  iexact Hp

/-- Waiting until a piece has left. -/
theorem wp_waitSend (nr : ℕ) [hn : Rows nr] (c : Dev nD) (i : Fin 10) (s : Fin 4) (q : Place nr) (hi : pn i = nr) (hs : s = ps i)
    (O : CellTallies nD τ sig ℕ) (hO : Above 0 O) :
    iprop(records I K ∗ levAts L lv ∗ owing c O ∗ cred (tallyAt (sendC c i) 0 (cr i)) ∗ atPos ER (sendC c i) 0 ∅ 0
        ∗ (∃ f : Vec F S4x256x4096 .bf16, ptOn c cc0_scratch2 (slotWin s 256 \ slotWin s nr) f))
      ⊢ wpB c (waitSend (F := F) nr i s q) fun _ => iprop(owing c O ∗ atPos ER (sendC c i) 1 ∅ 0
        ∗ (∃ f : Vec F S4x256x4096 .bf16, ptOn c cc0_scratch2 (slotWin s 256) f)) := by
  subst hs
  unfold owing
  iintro ⟨#HI, #Hlev, ⟨%W, Hw⟩, Hc, Hat, ⟨%g, Hs⟩⟩
  unfold wpB waitSend
  simp only [Prog.lift]
  iapply (Rounds.wp_wait_rest_token 𝒱₀ ER (Rd I) (c : Thread nD τ) none (κ := K (sendC c i)) (k' := cr i)
      (fun K' => (wpE_waitDma2_eq 𝒱₀ (c : Thread nD τ) none Set.univ K').trans (by rw [cr_send nr (ps i) i hi])) (Set.mem_univ _) 0 (O := O) (W := W) (R := 0) (m := 0) (T := ∅)
      (by rw [expect_send I c i, Nat.zero_add])) $$ [Hc Hw Hat]
  · isplitr; · iapply (inv_send I K c i); iexact HI
    isplitl [Hc]; · iexact Hc
    isplitl [Hw]; · iexact Hw
    isplitr; · iapply (mayWait c _ (by decide) hO); iexact Hlev
    iexact Hat
  iintro ⟨Hw, Hat, -, Hpay⟩
  ihave Hp := (Entails.of_eq (rest_send I c i)) $$ Hpay
  unfold sendPay
  icases Hp with ⟨%f, Hp⟩
  rw [wp_ret]; imodintro
  isplitl [Hw]; · iexists _; iexact Hw
  isplitl [Hat]; · iexact Hat
  iexists _
  iapply (pointsTo_join_subset (slot_sub nr (ps i)))
  isplitl [Hp]; · rw [hi]; iexact Hp
  iexact Hs

/-- Waiting until the peer's piece has arrived. -/
theorem wp_waitRecv (nr : ℕ) [hn : Rows nr] (c : Dev nD) (i : Fin 10) (s : Fin 4) (q : Place nr) (hi : pn i = nr)
    (O : CellTallies nD τ sig ℕ) (hO : Above 2 O) :
    iprop(records I K ∗ levAts L lv ∗ owing c O ∗ cred (tallyAt (recvC c i) 2 (cr i)) ∗ atPos ER (recvC c i) 0 ∅ 0)
      ⊢ wpB c (waitRecv (F := F) nr i s q) fun _ => iprop(owing c O ∗ atPos ER (recvC c i) 1 ∅ 0
        ∗ ptOn c cc0_scratch3 (recvWin (pc i) (p0 i) nr) (Grecv I c) ∗ reached ER (barC (pr c)) 1) := by
  unfold owing
  iintro ⟨#HI, #Hlev, ⟨%W, Hw⟩, Hc, Hat⟩
  unfold wpB waitRecv
  simp only [Prog.lift]
  iapply (Rounds.wp_wait_rest_token 𝒱₀ ER (Rd I) (c : Thread nD τ) none (κ := K (recvC c i)) (k' := cr i)
      (fun K' => (wpE_waitDma2_eq 𝒱₀ (c : Thread nD τ) none Set.univ K').trans (by rw [cr_recv nr q i hi])) (Set.mem_univ _) 2 (O := O) (W := W) (R := 0) (m := 0) (T := ∅)
      (by rw [expect_recv I c i, Nat.zero_add])) $$ [Hc Hw Hat]
  · isplitr; · iapply (inv_recv I K c i); iexact HI
    isplitl [Hc]; · iexact Hc
    isplitl [Hw]; · iexact Hw
    isplitr; · iapply (mayWait c _ (by decide) hO); iexact Hlev
    iexact Hat
  iintro ⟨Hw, Hat, -, Hpay⟩
  ihave Hp := (Entails.of_eq (rest_recv I c i)) $$ Hpay
  unfold recvPay
  icases Hp with ⟨Hp, Hr⟩
  rw [wp_ret]; imodintro
  isplitl [Hw]; · iexists _; iexact Hw
  isplitl [Hat]; · iexact Hat
  isplitl [Hp]; · rw [← hi]; iexact Hp
  iexact Hr

/-- Pushing a piece. -/
theorem wp_push (nr : ℕ) [hn : Rows nr] (c dev : Dev nD) (hdev : dev = pr c) (i : Fin 10) (s : Fin 4) (q : Place nr) (hi : pn i = nr) (hs : s = ps i)
    (hc : q.c = pc i) (h0 : q.r0 = p0 i) (v : FVec F ⟨2, ![nr, 4096]⟩ .bf16) (hG : ∀ x, Grecv I (pr c) ((recvView nr q).view.emb x) = v x)
    (O : CellTallies nD τ sig ℕ) :
    iprop(records I K ∗ owing c (O + tallyAt (recvC (pr c) i) 2 (cr i))
        ∗ (∃ f : Vec F S4x256x4096 .bf16, ⌜(sendView nr s).view.read (Elt F) f = v⌝ ∗ ptOn c cc0_scratch2 (slotWin s 256) f)
        ∗ (∃ f : Vec F S8x256x4096 .bf16, ptOn (pr c) cc0_scratch3 (recvWin (pc i) (p0 i) (pn i)) f) ∗ reached ER (barC c) 1
        ∗ dutyTok ER (sendC c i) 0 () ∗ reached ER (sendC c i) 0 ∗ dutyTok ER (recvC (pr c) i) 0 () ∗ reached ER (recvC (pr c) i) 0)
      ⊢ wpB c (push (F := F) nr dev i s q) fun _ => iprop(owing c O ∗ cred (tallyAt (sendC c i) 0 (cr i))
        ∗ (∃ f : Vec F S4x256x4096 .bf16, ptOn c cc0_scratch2 (slotWin s 256 \ slotWin s nr) f)) := by
  subst hdev hs
  have hset : recvWin (pc i) (p0 i) (pn i) = (recvView nr q).view.set := by rw [recv_set, hc, h0, hi]
  unfold owing
  iintro ⟨#HI, ⟨%W, Hw⟩, ⟨%f, %hf, Hs⟩, ⟨%g, Hd⟩, #Hb, Ht, #Hr, Ht', #Hr'⟩
  ihave Hs := (pointsTo_split_subset (slot_sub nr (ps i))).1 $$ Hs
  icases Hs with ⟨Hs, Hs'⟩
  unfold wpB push
  simp only [Prog.lift]
  iapply (Rounds.wp_send_pointsTo_with 𝒱₀ ER (Rd I) (c : Thread nD τ) none (c' := ((pr c : Dev nD) : Thread nD τ)) (src := sendView nr (ps i)) (dst := recvView nr q)
      (sS := .dma (sendSem i)) (sem := .dma (recvSem i)) (q := fullShare) (fs := f) (fd := g) (F := reached ER (barC c) 1)
      (r₁ := 0) (r₂ := 0) (d₁ := ()) (d₂ := ()) (κ₁ := K (sendC c i)) (κ₂ := K (recvC (pr c) i))
      (duty_mem I c (.dma (sendSem i)) 0 (by rw [role_send]; exact Nat.one_pos))
      (duty_mem I (pr c) (.dma (recvSem i)) 0 (by rw [role_recv]; exact Nat.one_pos))
      2 0 (cr i) (cr_recv nr q i hi) (amount_send I c i) (amount_recv I (pr c) i) O rfl (W := W)
      (by
        rw [payload_send I c i]; unfold sendPay
        iintro H
        iexists f
        rw [hi, ← send_set nr (ps i)]
        iexact H)
      (by
        rw [payload_recv I (pr c) i]; unfold recvPay
        rw [pr_pr, hset]
        refine sep_mono (Entails.of_eq (pointsTo_congr fun j hj => ?_)) .rfl
        obtain ⟨x, -, rfl⟩ := Finset.mem_map.mp hj
        refine (View.write_emb_of_mem _ _ (Finset.mem_univ _)).trans ?_
        rw [hG x, ← hf]
        rfl)) $$ [Hw Hs Hd Ht Ht']
  · isplitr; · iapply (inv_send I K c i); iexact HI
    isplitr; · iapply (inv_recv I K (pr c) i); iexact HI
    isplitl [Hs]; · rw [send_set nr (ps i)]; iexact Hs
    isplitl [Hd]
    · isplitl [Hd]; · rw [← hset]; iexact Hd
      iexact Hb
    isplitl [Hw]; · iexact Hw
    isplitl [Ht]; · iexact Ht
    isplitr; · iexact Hr
    isplitl [Ht']; · iexact Ht'
    iexact Hr'
  iintro ⟨Hc, Hw⟩
  rw [wp_ret]; imodintro
  isplitl [Hw]; · iexists _; iexact Hw
  isplitl [Hc]; · iexact Hc
  iexists f; iexact Hs'

end Cert.KernelIdeal

end
-- ==== Proof.Places.lean ====
/-
  The offsets and devices the printed program computes, in closed form.
-/
module

public import proofs.«01_k».proof.Proof.Talk
public import Idealize.ShloMosaic.Lib.Batch

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable [Facts]

local notation "𝕄" => MT nD τ sig ℕ (Elt F) ℕ UU ℕ

/-! ## Where the chunks are loaded from, in closed form -/

omit [Facts] in
theorem Src.ext' {nr : ℕ} {p q : Src nr} (hb : p.b.val = q.b.val) (hr : p.r0 = q.r0) : p = q := by
  obtain ⟨b, r, h⟩ := p
  obtain ⟨b', r', h'⟩ := q
  obtain rfl : b = b' := Fin.ext hb
  obtain rfl : r = r' := hr
  rfl

theorem src0_eq (c : Dev nD) : src0 c = othH c 0 0 := Src.ext' (by
  show (k0_off1 c) 0 = 2 * (0 / 2) + (1 - yOf c)
  revert c; decide) rfl
theorem src1_eq (c : Dev nD) : src1 c = othH c 0 1 := Src.ext' (by
  show (k0_off17 c) 0 = 2 * (0 / 2) + (1 - yOf c)
  revert c; decide) rfl
theorem src2_eq (c : Dev nD) : src2 c = oth c 1 := Src.ext' (by
  show (k0_off33 c 0#32) 0 = 2 * (1 / 2) + (1 - yOf c)
  revert c; decide) rfl
theorem src3_eq (c : Dev nD) : src3 c = oth c 2 := Src.ext' (by
  show (k0_off49 c 2#32) 0 = 2 * (2 / 2) + (1 - yOf c)
  revert c; decide) rfl
theorem src4_eq (c : Dev nD) : src4 c = oth c 3 := Src.ext' (by
  show (k0_off33 c 2#32) 0 = 2 * (3 / 2) + (1 - yOf c)
  revert c; decide) rfl
theorem src5_eq (c : Dev nD) : src5 c = oth c 4 := Src.ext' (by
  show (k0_off49 c 4#32) 0 = 2 * (4 / 2) + (1 - yOf c)
  revert c; decide) rfl
theorem src6_eq (c : Dev nD) : src6 c = oth c 5 := Src.ext' (by
  show (k0_off33 c 4#32) 0 = 2 * (5 / 2) + (1 - yOf c)
  revert c; decide) rfl
theorem src7_eq (c : Dev nD) : src7 c = oth c 6 := Src.ext' (by
  show (k0_off49 c 6#32) 0 = 2 * (6 / 2) + (1 - yOf c)
  revert c; decide) rfl
theorem src8_eq (c : Dev nD) : src8 c = othH c 7 0 := Src.ext' (by
  show (k0_off65 c) 0 = 2 * (7 / 2) + (1 - yOf c)
  revert c; decide) rfl
theorem src9_eq (c : Dev nD) : src9 c = othH c 7 1 := Src.ext' (by
  show (k0_off81 c) 0 = 2 * (7 / 2) + (1 - yOf c)
  revert c; decide) rfl
theorem src10_eq (c : Dev nD) : src10 c = own c 0 := Src.ext' (by
  show (k0_off97 c 0#32) 0 = 2 * (0 / 2) + yOf c
  revert c; decide) rfl
theorem src11_eq (c : Dev nD) : src11 c = own c 1 := Src.ext' (by
  show (k0_off113 c 0#32) 0 = 2 * (1 / 2) + yOf c
  revert c; decide) rfl
theorem src12_eq (c : Dev nD) : src12 c = own c 2 := Src.ext' (by
  show (k0_off97 c 2#32) 0 = 2 * (2 / 2) + yOf c
  revert c; decide) rfl
theorem src13_eq (c : Dev nD) : src13 c = own c 3 := Src.ext' (by
  show (k0_off113 c 2#32) 0 = 2 * (3 / 2) + yOf c
  revert c; decide) rfl
theorem src14_eq (c : Dev nD) : src14 c = own c 4 := Src.ext' (by
  show (k0_off97 c 4#32) 0 = 2 * (4 / 2) + yOf c
  revert c; decide) rfl
theorem src15_eq (c : Dev nD) : src15 c = own c 5 := Src.ext' (by
  show (k0_off113 c 4#32) 0 = 2 * (5 / 2) + yOf c
  revert c; decide) rfl
theorem src16_eq (c : Dev nD) : src16 c = own c 6 := Src.ext' (by
  show (k0_off97 c 6#32) 0 = 2 * (6 / 2) + yOf c
  revert c; decide) rfl
theorem src17_eq (c : Dev nD) : src17 c = own c 7 := Src.ext' (by
  show (k0_off113 c 6#32) 0 = 2 * (7 / 2) + yOf c
  revert c; decide) rfl

/-! ## The device every push and signal names -/

theorem dev1_eq (c : Dev nD) : (⟨k0_dev1 c, k0_dev1_lt c⟩ : Dev nD) = pr c := Fin.ext (by
  show k0_dev1 c = (pr c).val
  revert c; decide)
theorem dev2_eq (c : Dev nD) : (⟨k0_dev2 c, k0_dev2_lt c⟩ : Dev nD) = pr c := Fin.ext (by
  show k0_dev2 c = (pr c).val
  revert c; decide)
theorem dev3_eq (c : Dev nD) : (⟨k0_dev3 c, k0_dev3_lt c⟩ : Dev nD) = pr c := Fin.ext (by
  show k0_dev3 c = (pr c).val
  revert c; decide)
theorem dev4_eq (c : Dev nD) : (⟨k0_dev4 c, k0_dev4_lt c⟩ : Dev nD) = pr c := Fin.ext (by
  show k0_dev4 c = (pr c).val
  revert c; decide)
theorem dev5_eq (c : Dev nD) : (⟨k0_dev5 c, k0_dev5_lt c⟩ : Dev nD) = pr c := Fin.ext (by
  show k0_dev5 c = (pr c).val
  revert c; decide)
theorem dev6_eq (c : Dev nD) : (⟨k0_dev6 c, k0_dev6_lt c⟩ : Dev nD) = pr c := Fin.ext (by
  show k0_dev6 c = (pr c).val
  revert c; decide)
theorem dev7_eq (c : Dev nD) : (⟨k0_dev7 c, k0_dev7_lt c⟩ : Dev nD) = pr c := Fin.ext (by
  show k0_dev7 c = (pr c).val
  revert c; decide)
theorem dev8_eq (c : Dev nD) : (⟨k0_dev8 c, k0_dev8_lt c⟩ : Dev nD) = pr c := Fin.ext (by
  show k0_dev8 c = (pr c).val
  revert c; decide)
theorem dev9_eq (c : Dev nD) : (⟨k0_dev9 c, k0_dev9_lt c⟩ : Dev nD) = pr c := Fin.ext (by
  show k0_dev9 c = (pr c).val
  revert c; decide)
theorem dev10_eq (c : Dev nD) : (⟨k0_dev10 c, k0_dev10_lt c⟩ : Dev nD) = pr c := Fin.ext (by
  show k0_dev10 c = (pr c).val
  revert c; decide)
theorem dev11_eq (c : Dev nD) : (⟨k0_dev11 c, k0_dev11_lt c⟩ : Dev nD) = pr c := Fin.ext (by
  show k0_dev11 c = (pr c).val
  revert c; decide)
theorem dev12_eq (c : Dev nD) : (⟨k0_dev12 c, k0_dev12_lt c⟩ : Dev nD) = pr c := Fin.ext (by
  show k0_dev12 c = (pr c).val
  revert c; decide)

end Cert.KernelIdeal

end
-- ==== Proof.Steps.lean ====
/-
  The steps of the run: one piece sent, one chunk received.
-/
module

public import proofs.«01_k».proof.Proof.Places

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable [Facts]

local notation "𝕄" => MT nD τ sig ℕ (Elt F) ℕ UU ℕ

variable (I : Inputs F) (K : GSem nD τ sig → ℕ)

/-! ## The assertions between the pieces -/

/-- The records, the levels, and that the own barrier cell's round 1 is reached: kept throughout. -/
def facts (c : Dev nD) : sProp 𝕄 := iprop(records I K ∗ levAts L lv ∗ reached ER (barC c) 1)

instance facts_persistent (c : Dev nD) : BI.Persistent (facts I K c) := by unfold facts; infer_instance

/-- The activations, the staging buffers, the weights, the load semaphore, and what is owed. -/
def base (c : Dev nD) (D : CellTallies nD τ sig ℕ) : sProp 𝕄 :=
  iprop(pt c main_v2 (I.O c) ∗ ((∃ f, pt c cc0_scratch0 f) ∗ (∃ f, pt c cc0_scratch1 f) ∗ pt c cc0_stg0_0 (I.W c))
    ∗ semVal ((c : Thread nD τ), .dma cc0_scratch5.sem) 0 ∗ owing c D)

/-- A send slot free to fill. -/
def slotFree (c : Dev nD) (s : Fin 4) : sProp 𝕄 := iprop(∃ f : Vec F S4x256x4096 .bf16, ptOn c cc0_scratch2 (slotWin s 256) f)

/-- What the push of piece `i` takes. -/
def ready (c : Dev nD) (i : Fin 10) : sProp 𝕄 :=
  iprop((∃ f : Vec F S8x256x4096 .bf16, ptOn (pr c) cc0_scratch3 (recvWin (pc i) (p0 i) (pn i)) f)
    ∗ dutyTok ER (sendC c i) 0 () ∗ reached ER (sendC c i) 0 ∗ dutyTok ER (recvC (pr c) i) 0 () ∗ reached ER (recvC (pr c) i) 0
    ∗ atPos ER (sendC c i) 0 ∅ 0)

/-- Piece `i` is on its way. -/
def flying (c : Dev nD) (i : Fin 10) : sProp 𝕄 :=
  iprop(cred (tallyAt (sendC c i) 0 (cr i)) ∗ atPos ER (sendC c i) 0 ∅ 0
    ∗ (∃ f : Vec F S4x256x4096 .bf16, ptOn c cc0_scratch2 (slotWin (ps i) 256 \ slotWin (ps i) (pn i)) f))

/-- Piece `i` has left. -/
def left (c : Dev nD) (i : Fin 10) : sProp 𝕄 := atPos ER (sendC c i) 1 ∅ 0

/-- The peer's piece `i` is expected. -/
def awaiting (c : Dev nD) (i : Fin 10) : sProp 𝕄 := iprop(cred (tallyAt (recvC c i) 2 (cr i)) ∗ atPos ER (recvC c i) 0 ∅ 0)

/-- The peer's piece `i` has arrived. -/
def arrived (c : Dev nD) (i : Fin 10) : sProp 𝕄 :=
  iprop(atPos ER (recvC c i) 1 ∅ 0 ∗ ptOn c cc0_scratch3 (recvWin (pc i) (p0 i) (pn i)) (Grecv I c) ∗ reached ER (barC (pr c)) 1)

/-! ## One piece sent -/

/-- Loading, multiplying and pushing a piece through a free slot. -/
theorem step_push (nr : ℕ) [hn : Rows nr] (c dev : Dev nD) (hdev : dev = pr c) (i : Fin 10) (s : Fin 4) (q₀ : Src nr) (q : Place nr) (hi : pn i = nr) (hs : s = ps i)
    (hc : q.c = pc i) (h0 : q.r0 = p0 i) (hG : ∀ x, Grecv I (pr c) ((recvView nr q).view.emb x) = part nr q₀ (I.O c) (I.W c) x)
    (O : CellTallies nD τ sig ℕ) (hO : Above 0 (O + tallyAt (recvC (pr c) i) 2 (cr i))) (rest : P (F := F) PUnit) (Q : PUnit → sProp 𝕄) :
    iprop(facts I K c ∗ base I c (O + tallyAt (recvC (pr c) i) 2 (cr i)) ∗ slotFree c s ∗ ready c i)
      ⊢ iprop((base I c O ∗ flying c i -∗ wpB c rest Q)
        -∗ wpB c (loadChunk nr q₀ >>= fun _ => fillSlot nr (Memref.whole cc0_stg0_0) s >>= fun _ => push nr dev i s q >>= fun _ => rest) Q) := by
  subst hs
  unfold facts base slotFree ready flying
  iintro ⟨⟨#HI, #Hlev, #Hb⟩, ⟨HO, ⟨Hs0, Hs1, Hw⟩, Hsem, How⟩, Hsl, ⟨Hd, Ht, #Hr, Ht', #Hr', Hat⟩⟩ Hk
  iapply (wp_then c (wp_loadChunk nr q₀ c (I.O c) _ hO) Q) $$ [HO Hs0 Hsem How]
  · isplitl [HO]; · iexact HO
    isplitl [Hs0]; · iexact Hs0
    isplitl [Hsem]; · iexact Hsem
    isplitl [How]; · iexact How
    iexact Hlev
  iintro %_ ⟨HO, Hs0, Hsem, How⟩
  iapply (wp_then c (wp_fillSlot nr c (ps i) (chunk nr q₀ (I.O c)) (I.W c)) Q) $$ [Hs0 Hs1 Hw Hsl]
  · isplitr [Hsl]
    · isplitl [Hs0]; · iexact Hs0
      isplitl [Hs1]; · iexact Hs1
      iexact Hw
    iexact Hsl
  iintro %_ ⟨Hst, Hsl⟩
  iapply (wp_then c (wp_push I K nr c dev hdev i (ps i) q hi rfl hc h0 (part nr q₀ (I.O c) (I.W c)) hG O) Q) $$ [How Hsl Hd Ht Ht']
  · isplitr; · iexact HI
    isplitl [How]; · iexact How
    isplitl [Hsl]; · iexact Hsl
    isplitl [Hd]; · iexact Hd
    isplitr; · iexact Hb
    isplitl [Ht]; · iexact Ht
    isplitr; · iexact Hr
    isplitl [Ht']; · iexact Ht'
    iexact Hr'
  iintro %_ ⟨How, Hc, Hsl⟩
  iapply Hk
  isplitl [HO Hst Hsem How]
  · isplitl [HO]; · iexact HO
    isplitl [Hst]; · iexact Hst
    isplitl [Hsem]; · iexact Hsem
    iexact How
  isplitl [Hc]; · iexact Hc
  isplitl [Hat]; · iexact Hat
  rw [hi]
  iexact Hsl

/-- Waiting until a piece has left frees its slot. -/
theorem step_waitSend (nr : ℕ) [hn : Rows nr] (c : Dev nD) (i : Fin 10) (s : Fin 4) (q : Place nr) (hi : pn i = nr) (hs : s = ps i)
    (O : CellTallies nD τ sig ℕ) (hO : Above 0 O) (rest : P (F := F) PUnit) (Q : PUnit → sProp 𝕄) :
    iprop(facts I K c ∗ base I c O ∗ flying c i)
      ⊢ iprop((base I c O ∗ slotFree c s ∗ left c i -∗ wpB c rest Q) -∗ wpB c (waitSend nr i s q >>= fun _ => rest) Q) := by
  unfold facts base slotFree flying left
  iintro ⟨⟨#HI, #Hlev, #Hb⟩, ⟨HO, Hst, Hsem, How⟩, ⟨Hc, Hat, Hsl⟩⟩ Hk
  iapply (wp_then c (wp_waitSend I K nr c i s q hi hs O hO) Q) $$ [How Hc Hat Hsl]
  · isplitr; · iexact HI
    isplitr; · iexact Hlev
    isplitl [How]; · iexact How
    isplitl [Hc]; · iexact Hc
    isplitl [Hat]; · iexact Hat
    rw [hs, ← hi]
    iexact Hsl
  iintro %_ ⟨How, Hat, Hsl⟩
  iapply Hk
  isplitl [HO Hst Hsem How]
  · isplitl [HO]; · iexact HO
    isplitl [Hst]; · iexact Hst
    isplitl [Hsem]; · iexact Hsem
    iexact How
  isplitl [Hsl]; · iexact Hsl
  iexact Hat

/-- Loading a chunk. -/
theorem step_load (nr : ℕ) [hn : Rows nr] (c : Dev nD) (q₀ : Src nr) (D : CellTallies nD τ sig ℕ) (hD : Above 0 D)
    {β : Type} (rest : P (F := F) β) (Q : β → sProp 𝕄) :
    iprop(facts I K c ∗ base I c D)
      ⊢ iprop(((pt c main_v2 (I.O c) ∗ ((∃ f, ⌜((Memref.whole cc0_scratch0).access (stageRect nr)).read (Elt F) f = chunk nr q₀ (I.O c)⌝ ∗ pt c cc0_scratch0 f)
            ∗ (∃ f, pt c cc0_scratch1 f) ∗ pt c cc0_stg0_0 (I.W c)) ∗ semVal ((c : Thread nD τ), .dma cc0_scratch5.sem) 0 ∗ owing c D) -∗ wpB c rest Q)
        -∗ wpB c (loadChunk nr q₀ >>= fun _ => rest) Q) := by
  unfold facts base
  iintro ⟨⟨#HI, #Hlev, #Hb⟩, ⟨HO, ⟨Hs0, Hs1, Hw⟩, Hsem, How⟩⟩ Hk
  iapply (wp_then c (wp_loadChunk nr q₀ c (I.O c) D hD) Q) $$ [HO Hs0 Hsem How]
  · isplitl [HO]; · iexact HO
    isplitl [Hs0]; · iexact Hs0
    isplitl [Hsem]; · iexact Hsem
    isplitl [How]; · iexact How
    iexact Hlev
  iintro %_ ⟨HO, Hs0, Hsem, How⟩
  iapply Hk
  isplitl [HO]; · iexact HO
  isplitl [Hs0 Hs1 Hw]
  · isplitl [Hs0]; · iexact Hs0
    isplitl [Hs1]; · iexact Hs1
    iexact Hw
  isplitl [Hsem]; · iexact Hsem
  iexact How

/-- A piece that reuses the slot of an earlier one. -/
theorem step_repush (nr nr' : ℕ) [hn : Rows nr] [hn' : Rows nr'] (c dev : Dev nD) (hdev : dev = pr c) (i j : Fin 10) (s : Fin 4) (q₀ : Src nr) (q : Place nr) (q' : Place nr') (hi : pn i = nr) (hs : s = ps i)
    (hc : q.c = pc i) (h0 : q.r0 = p0 i) (hG : ∀ x, Grecv I (pr c) ((recvView nr q).view.emb x) = part nr q₀ (I.O c) (I.W c) x)
    (hj : pn j = nr') (hs' : s = ps j)
    (O : CellTallies nD τ sig ℕ) (hO : Above 0 (O + tallyAt (recvC (pr c) i) 2 (cr i))) (rest : P (F := F) PUnit) (Q : PUnit → sProp 𝕄) :
    iprop(facts I K c ∗ base I c (O + tallyAt (recvC (pr c) i) 2 (cr i)) ∗ flying c j ∗ ready c i)
      ⊢ iprop((base I c O ∗ flying c i ∗ left c j -∗ wpB c rest Q)
        -∗ wpB c (loadChunk nr q₀ >>= fun _ => waitSend nr' j s q' >>= fun _ => fillSlot nr (Memref.whole cc0_stg0_0) s >>= fun _ => push nr dev i s q >>= fun _ => rest) Q) := by
  unfold facts base flying ready left
  iintro ⟨⟨#HI, #Hlev, #Hb⟩, ⟨HO, ⟨Hs0, Hs1, Hw⟩, Hsem, How⟩, ⟨Hcj, Hatj, Hslj⟩, ⟨Hd, Ht, #Hr, Ht', #Hr', Hat⟩⟩ Hk
  iapply (wp_then c (wp_loadChunk nr q₀ c (I.O c) _ hO) Q) $$ [HO Hs0 Hsem How]
  · isplitl [HO]; · iexact HO
    isplitl [Hs0]; · iexact Hs0
    isplitl [Hsem]; · iexact Hsem
    isplitl [How]; · iexact How
    iexact Hlev
  iintro %_ ⟨HO, Hs0, Hsem, How⟩
  iapply (wp_then c (wp_waitSend I K nr' c j s q' hj hs' _ hO) Q) $$ [How Hcj Hatj Hslj]
  · isplitr; · iexact HI
    isplitr; · iexact Hlev
    isplitl [How]; · iexact How
    isplitl [Hcj]; · iexact Hcj
    isplitl [Hatj]; · iexact Hatj
    rw [hs', ← hj]
    iexact Hslj
  iintro %_ ⟨How, Hatj, Hsl⟩
  iapply (wp_then c (wp_fillSlot nr c s (chunk nr q₀ (I.O c)) (I.W c)) Q) $$ [Hs0 Hs1 Hw Hsl]
  · isplitr [Hsl]
    · isplitl [Hs0]; · iexact Hs0
      isplitl [Hs1]; · iexact Hs1
      iexact Hw
    iexact Hsl
  iintro %_ ⟨Hst, Hsl⟩
  iapply (wp_then c (wp_push I K nr c dev hdev i s q hi hs hc h0 (part nr q₀ (I.O c) (I.W c)) hG O) Q) $$ [How Hsl Hd Ht Ht']
  · isplitr; · iexact HI
    isplitl [How]; · iexact How
    isplitl [Hsl]; · iexact Hsl
    isplitl [Hd]; · iexact Hd
    isplitr; · iexact Hb
    isplitl [Ht]; · iexact Ht
    isplitr; · iexact Hr
    isplitl [Ht']; · iexact Ht'
    iexact Hr'
  iintro %_ ⟨How, Hc, Hsl⟩
  iapply Hk
  isplitl [HO Hst Hsem How]
  · isplitl [HO]; · iexact HO
    isplitl [Hst]; · iexact Hst
    isplitl [Hsem]; · iexact Hsem
    iexact How
  isplitl [Hc Hat Hsl]
  · isplitl [Hc]; · iexact Hc
    isplitl [Hat]; · iexact Hat
    rw [hi, ← hs]
    iexact Hsl
  iexact Hatj

end Cert.KernelIdeal

end
-- ==== Proof.Chunks.lean ====
/-
  The steps of the run that receive: the own product, the peer's rows, and the sum copied out.
-/
module

public import proofs.«01_k».proof.Proof.Steps

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable [Facts]

local notation "𝕄" => MT nD τ sig ℕ (Elt F) ℕ UU ℕ

variable (I : Inputs F) (K : GSem nD τ sig → ℕ)

/-! ## One chunk received -/

/-- Chunk `ch` of device `d`'s result. -/
def accOf (d : Dev nD) (ch : Fin 8) : FVec F S256x4096 .f32 :=
  addf (prod 256 (own d ch) (I.O d) (I.W d)) (widen 256 (at3 256 (placeC ch) (Grecv I d)))

/-- Device `d`'s result. -/
def Gout (d : Dev nD) : Vec F S4x512x4096 .f32 := fun j =>
  accOf I d ⟨2 * (j 0).val + (j 1).val / 256, by have : (j 0).val < 4 := (j 0).isLt; have : (j 1).val < 512 := (j 1).isLt; omega⟩
    (Shape.pair (d := ![256, 4096]) ⟨(j 1).val % 256, Nat.mod_lt _ (by decide)⟩ (j 2))

/-- The first `n` rows of the result, counted through the batches, are written. -/
def written (c : Dev nD) (n : ℕ) (f : Vec F S4x512x4096 .f32) : Prop := ∀ j : S4x512x4096.Idx, 512 * (j 0).val + (j 1).val < n → f j = Gout I c j

/-- The accumulator, the result so far, and the store semaphore. -/
def outUpTo (c : Dev nD) (n : ℕ) : sProp 𝕄 :=
  iprop((∃ a, pt c cc0_scratch4 a) ∗ (∃ f, ⌜written I c n f⌝ ∗ pt c main_v3 f) ∗ semVal ((c : Thread nD τ), .dma cc0_scratch6.sem) 0)

/-- Copying the next rows out extends the written part. -/
theorem written_step (nr : ℕ) [hn : Rows nr] (c : Dev nD) (n : ℕ) (o : OutPlace nr) (ho : 512 * o.b.val + o.r0 = n) (f : Vec F S4x512x4096 .f32)
    (v : FVec F ⟨2, ![nr, 4096]⟩ .f32) (hv : ∀ x, v x = Gout I c ((outView nr o).view.emb x)) (hf : written I c n f) :
    written I c (n + nr) ((outView nr o).view.write (Elt F) f v Finset.univ) := by
  intro j hj
  by_cases hm : j ∈ (outView nr o).view.set
  · obtain ⟨x, -, rfl⟩ := Finset.mem_map.mp hm
    exact (View.write_emb_of_mem _ _ (Finset.mem_univ x)).trans (hv x)
  · refine (View.write_of_not_mem _ _ _ (by rwa [View.set] at hm)).trans (hf j ?_)
    by_contra hlt
    apply hm
    rw [out_set]
    unfold written at hf
    have h1 : (j 1).val < 512 := (j 1).isLt
    have h2 := o.inb
    have h3 := Rows.le nr
    have h4 := o.b.isLt
    have h5 : (j 0).val < 4 := (j 0).isLt
    refine Finset.mem_filter.mpr ⟨Finset.mem_univ _, ?_⟩
    omega

/-- A chunk's value read row by row is the result's. -/
theorem Gout_at (c : Dev nD) (ch : Fin 8) (j : S4x512x4096.Idx) (x : S256x4096.Idx) (h0 : 2 * (j 0).val + (j 1).val / 256 = ch.val)
    (h1 : (j 1).val % 256 = (x 0).val) (h2 : (j 2).val = (x 1).val) : Gout I c j = accOf I c ch x := by
  have hc : (⟨2 * (j 0).val + (j 1).val / 256, by omega⟩ : Fin 8) = ch := Fin.ext h0
  exact congrArg₂ (fun (e : Fin 8) (y : S256x4096.Idx) => accOf I c e y) hc (idx2_ext h1 h2)

/-- A whole chunk's rows, as the result's. -/
theorem whole_value (c : Dev nD) (ch : Fin 8) (x : S256x4096.Idx) :
    accOf I c ch x = Gout I c ((outView 256 (outC ch)).view.emb x) := by
  have hx : (x 0).val < 256 := (x 0).isLt
  rw [out_emb]
  refine (Gout_at I c ch _ x ?_ ?_ rfl).symm
  · show 2 * (ch.val / 2) + (256 * (ch.val % 2) + (x 0).val) / 256 = ch.val
    omega
  · show (256 * (ch.val % 2) + (x 0).val) % 256 = (x 0).val
    omega

/-- Widening what is read at a place is pointwise. -/
theorem widen_at3 (nr nr' : ℕ) [hn : Rows nr] [hn' : Rows nr'] (q : Place nr) (q' : Place nr') (g : Vec F S8x256x4096 .bf16)
    (x : (⟨2, ![nr, 4096]⟩ : Shape).Idx) (y : (⟨2, ![nr', 4096]⟩ : Shape).Idx)
    (hc : q.c = q'.c) (h0 : q.r0 + (x 0).val = q'.r0 + (y 0).val) (h1 : (x 1).val = (y 1).val) :
    widen nr (at3 nr q g) x = widen nr' (at3 nr' q' g) y := by
  have he : (recvView nr q).view.emb x = (recvView nr' q').view.emb y := by
    rw [recv_emb, recv_emb]
    funext a
    apply Fin.ext
    match a with
    | 0 => exact congrArg Fin.val hc
    | 1 => exact h0
    | 2 => exact h1
  exact congrArg (fun e => FloatOps.extf .f32 bitsLt_bf16_f32 (g e)) he

/-- A half of the last chunk's rows, as the result's. -/
theorem half_value (c : Dev nD) (r : Fin 2) (q : Place 128) (hc : q.c = 7) (h0 : q.r0 = 128 * r.val) (x : S128x4096.Idx) :
    addf (extractStridedSlice S128x4096 ![128 * r.val, 0] (prod 256 (own c 7) (I.O c) (I.W c)) (sliceAcc r)) (widen 128 (at3 128 q (Grecv I c))) x
      = Gout I c ((outView 128 (outH r)).view.emb x) := by
  have hx : (x 0).val < 128 := (x 0).isLt
  have hr := r.isLt
  rw [out_emb]
  refine Eq.trans ?_ (Gout_at I c 7 _ (Shape.pair (d := ![256, 4096]) ⟨128 * r.val + (x 0).val, by show _ < 256; omega⟩ (x 1)) ?_ ?_ rfl).symm
  · refine congrArg₂ FloatOps.addf (congrArg (prod 256 (own c 7) (I.O c) (I.W c)) (idx2_ext rfl (Nat.zero_add _))) ?_
    exact widen_at3 128 256 q (placeC 7) _ _ _ hc (by rw [h0]; exact (Nat.zero_add _).symm) rfl
  · show 2 * 3 + (256 + 128 * r.val + (x 0).val) / 256 = 7
    omega
  · show (256 + 128 * r.val + (x 0).val) % 256 = 128 * r.val + (x 0).val
    omega

/-- The rows of a chunk that arrived. -/
abbrev landed (c : Dev nD) (ch : Fin 8) : sProp 𝕄 := ptOn c cc0_scratch3 (recvWin ch 0 256) (Grecv I c)

/-- The state between two chunks. -/
def mid (c : Dev nD) (D : CellTallies nD τ sig ℕ) (n : ℕ) : sProp 𝕄 := iprop(base I c D ∗ outUpTo I c n)

theorem win_join (ch : Fin 8) : recvWin ch 0 256 = recvWin ch 0 128 ∪ recvWin ch 128 128 := by
  ext j
  unfold recvWin
  simp only [Finset.mem_union, Finset.mem_filter, Finset.mem_univ, true_and]
  omega

theorem win_disjoint (ch : Fin 8) : Disjoint (recvWin ch 0 128) (recvWin ch 128 128) := by
  rw [Finset.disjoint_left]
  intro j h h'
  unfold recvWin at h h'
  simp only [Finset.mem_filter, Finset.mem_univ, true_and] at h h'
  omega

/-- The two halves of a chunk are the chunk. -/
theorem halves (c : Dev nD) (ch : Fin 8) (g : Vec F S8x256x4096 .bf16) :
    iprop(ptOn c cc0_scratch3 (recvWin ch 0 128) g ∗ ptOn c cc0_scratch3 (recvWin ch 128 128) g) ⊢ ptOn c cc0_scratch3 (recvWin ch 0 256) g := by
  rw [win_join]
  exact (pointsTo_union (win_disjoint ch)).2

/-- Loading and multiplying an own chunk. -/
theorem step_product (c : Dev nD) (q₀ : Src 256) (D : CellTallies nD τ sig ℕ) (hD : Above 0 D)
    (k : FVec F S256x4096 .f32 → P (F := F) PUnit) (Q : PUnit → sProp 𝕄) :
    iprop(facts I K c ∗ base I c D)
      ⊢ iprop((base I c D -∗ wpB c (k (prod 256 q₀ (I.O c) (I.W c))) Q)
        -∗ wpB c (loadChunk 256 q₀ >>= fun _ => product 256 (Memref.whole cc0_stg0_0) >>= k) Q) := by
  unfold facts base
  iintro ⟨⟨#HI, #Hlev, #Hb⟩, ⟨HO, ⟨Hs0, Hs1, Hw⟩, Hsem, How⟩⟩ Hk
  iapply (wp_then c (wp_loadChunk 256 q₀ c (I.O c) D hD) Q) $$ [HO Hs0 Hsem How]
  · isplitl [HO]; · iexact HO
    isplitl [Hs0]; · iexact Hs0
    isplitl [Hsem]; · iexact Hsem
    isplitl [How]; · iexact How
    iexact Hlev
  iintro %_ ⟨HO, Hs0, Hsem, How⟩
  iapply (wp_then c (wp_product 256 c (chunk 256 q₀ (I.O c)) (I.W c)) Q) $$ [Hs0 Hs1 Hw]
  · isplitl [Hs0]; · iexact Hs0
    isplitl [Hs1]; · iexact Hs1
    iexact Hw
  iintro %v ⟨%hv, Hst⟩
  subst hv
  iapply Hk
  isplitl [HO]; · iexact HO
  isplitl [Hst]; · iexact Hst
  isplitl [Hsem]; · iexact Hsem
  iexact How

/-- Waiting for a piece. -/
theorem step_waitRecv (nr : ℕ) [hn : Rows nr] (c : Dev nD) (i : Fin 10) (s : Fin 4) (q : Place nr) (hi : pn i = nr)
    (O : CellTallies nD τ sig ℕ) (hO : Above 2 O) (rest : P (F := F) PUnit) (Q : PUnit → sProp 𝕄) :
    iprop(facts I K c ∗ base I c O ∗ awaiting c i)
      ⊢ iprop((base I c O ∗ arrived I c i -∗ wpB c rest Q) -∗ wpB c (waitRecv nr i s q >>= fun _ => rest) Q) := by
  unfold facts base awaiting arrived
  iintro ⟨⟨#HI, #Hlev, #Hb⟩, ⟨HO, Hst, Hsem, How⟩, ⟨Hc, Hat⟩⟩ Hk
  iapply (wp_then c (wp_waitRecv I K nr c i s q hi O hO) Q) $$ [How Hc Hat]
  · isplitr; · iexact HI
    isplitr; · iexact Hlev
    isplitl [How]; · iexact How
    isplitl [Hc]; · iexact Hc
    iexact Hat
  iintro %_ ⟨How, Hat, Hp, Hr⟩
  iapply Hk
  isplitl [HO Hst Hsem How]
  · isplitl [HO]; · iexact HO
    isplitl [Hst]; · iexact Hst
    isplitl [Hsem]; · iexact Hsem
    iexact How
  isplitl [Hat]; · iexact Hat
  isplitl [Hp]; · rw [hi]; iexact Hp
  iexact Hr

/-- Finishing a whole chunk. -/
theorem step_finish (c : Dev nD) (ch : Fin 8) (O : CellTallies nD τ sig ℕ) (hO : Above 0 O) (rest : P (F := F) PUnit) (Q : PUnit → sProp 𝕄) :
    iprop(facts I K c ∗ mid I c O (256 * ch.val) ∗ landed I c ch)
      ⊢ iprop((mid I c O (256 * ch.val + 256) ∗ landed I c ch -∗ wpB c rest Q)
        -∗ wpB c (finish (prod 256 (own c ch) (I.O c) (I.W c)) (placeC ch) (outC ch) >>= fun _ => rest) Q) := by
  unfold facts mid base outUpTo
  iintro ⟨⟨#HI, #Hlev, #Hb⟩, ⟨⟨HO, Hst, Hsem, How⟩, ⟨Ha, ⟨%f, %hf, Hf⟩, Hss⟩⟩, Hl⟩ Hk
  iapply (wp_then c (wp_finish c (prod 256 (own c ch) (I.O c) (I.W c)) (placeC ch) (outC ch) (Grecv I c) f O hO) Q) $$ [How Ha Hf Hss Hl]
  · isplitl [Hl]; · iexact Hl
    isplitl [Ha]; · iexact Ha
    isplitl [Hf]; · iexact Hf
    isplitl [Hss]; · iexact Hss
    isplitl [How]; · iexact How
    iexact Hlev
  iintro %_ ⟨Hl, Ha, Hf, Hss, How⟩
  iapply Hk
  isplitr [Hl]
  · isplitl [HO Hst Hsem How]
    · isplitl [HO]; · iexact HO
      isplitl [Hst]; · iexact Hst
      isplitl [Hsem]; · iexact Hsem
      iexact How
    isplitl [Ha]; · iexact Ha
    isplitl [Hf]
    · iexists _
      isplitr [Hf]
      on_goal 2 => iexact Hf
      ipureintro
      exact written_step I 256 c _ (outC ch) (by show 512 * (ch.val / 2) + 256 * (ch.val % 2) = 256 * ch.val; omega) f _ (whole_value I c ch) hf
    iexact Hss
  iexact Hl

/-- Finishing half of the last chunk. -/
theorem step_finishHalf (c : Dev nD) (r : Fin 2) (q : Place 128) (hc : q.c = 7) (h0 : q.r0 = 128 * r.val) (O : CellTallies nD τ sig ℕ) (hO : Above 0 O)
    (rest : P (F := F) PUnit) (Q : PUnit → sProp 𝕄) :
    iprop(facts I K c ∗ mid I c O (1792 + 128 * r.val) ∗ ptOn c cc0_scratch3 (recvWin q.c q.r0 128) (Grecv I c))
      ⊢ iprop((mid I c O (1792 + 128 * r.val + 128) ∗ ptOn c cc0_scratch3 (recvWin q.c q.r0 128) (Grecv I c) -∗ wpB c rest Q)
        -∗ wpB c (finishHalf (prod 256 (own c 7) (I.O c) (I.W c)) r q (outH r) >>= fun _ => rest) Q) := by
  unfold facts mid base outUpTo
  iintro ⟨⟨#HI, #Hlev, #Hb⟩, ⟨⟨HO, Hst, Hsem, How⟩, ⟨Ha, ⟨%f, %hf, Hf⟩, Hss⟩⟩, Hl⟩ Hk
  iapply (wp_then c (wp_finishHalf c (prod 256 (own c 7) (I.O c) (I.W c)) r q (outH r) (Grecv I c) f O hO) Q) $$ [How Ha Hf Hss Hl]
  · isplitl [Hl]; · iexact Hl
    isplitl [Ha]; · iexact Ha
    isplitl [Hf]; · iexact Hf
    isplitl [Hss]; · iexact Hss
    isplitl [How]; · iexact How
    iexact Hlev
  iintro %_ ⟨Hl, Ha, Hf, Hss, How⟩
  iapply Hk
  isplitr [Hl]
  · isplitl [HO Hst Hsem How]
    · isplitl [HO]; · iexact HO
      isplitl [Hst]; · iexact Hst
      isplitl [Hsem]; · iexact Hsem
      iexact How
    isplitl [Ha]; · iexact Ha
    isplitl [Hf]
    · iexists _
      isplitr [Hf]
      on_goal 2 => iexact Hf
      ipureintro
      exact written_step I 128 c _ (outH r) (by show 512 * 3 + (256 + 128 * r.val) = 1792 + 128 * r.val; omega) f _ (half_value I c r q hc h0) hf
    iexact Hss
  iexact Hl

end Cert.KernelIdeal

end
-- ==== Proof.Parts.lean ====
/-
  The send and the receive buffer cut into the parts the protocol hands over, and put together again.
-/
module

public import proofs.«01_k».proof.Proof.Chunks

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable [Facts]

local notation "𝕄" => MT nD τ sig ℕ (Elt F) ℕ UU ℕ

variable (I : Inputs F)

/-! ## The buffers cut into the parts of the protocol -/

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem ten (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem slots_disj : ∀ s ∈ (Finset.univ : Finset (Fin 4)), ∀ s' ∈ (Finset.univ : Finset (Fin 4)), s ≠ s' → Disjoint (slotWin s 256) (slotWin s' 256) := by
  intro s _ s' _ hne
  rw [Finset.disjoint_left]
  intro j h h'
  simp only [slotWin, Finset.mem_filter, Finset.mem_univ, true_and] at h h'
  exact hne (Fin.ext (by omega))

theorem slots_all : (Finset.univ : Finset (Fin 4)).biUnion (fun s => slotWin s 256) = Finset.univ := by
  ext j
  simp only [Finset.mem_biUnion, Finset.mem_univ, true_and, iff_true]
  exact ⟨j 0, Finset.mem_filter.mpr ⟨Finset.mem_univ _, rfl, (j 1).isLt⟩⟩

/-- The send buffer is its four slots. -/
theorem slots_split (c : Dev nD) (f : Vec F S4x256x4096 .bf16) :
    pt c cc0_scratch2 f ⊢ iprop(slotFree c 0 ∗ slotFree c 1 ∗ slotFree c 2 ∗ slotFree c 3) := by
  have e : (pt c cc0_scratch2 f : sProp 𝕄) = bigSep Finset.univ fun s : Fin 4 => ptOn c cc0_scratch2 (slotWin s 256) f := by
    refine Eq.trans ?_ (pointsTo_biUnion (Ix := ℕ) (Name := ℕ) (U := UU) (Lvl := ℕ) (ℓ := (c : Thread nD τ).loc cc0_scratch2) (q := fullShare) (f := f) Finset.univ (fun s : Fin 4 => slotWin s 256) slots_disj)
    rw [slots_all]
  refine (Entails.of_eq (e.trans (four _))).trans ?_
  unfold slotFree
  iintro ⟨H0, H1, H2, H3⟩
  isplitl [H0]; · iexists f; iexact H0
  isplitl [H1]; · iexists f; iexact H1
  isplitl [H2]; · iexists f; iexact H2
  iexists f; iexact H3

/-- Four free slots are the send buffer. -/
theorem slots_join (c : Dev nD) :
    iprop(slotFree c 0 ∗ slotFree c 1 ∗ slotFree c 2 ∗ slotFree c 3) ⊢ (iprop(∃ f : Vec F S4x256x4096 .bf16, pt c cc0_scratch2 f) : sProp 𝕄) := by
  unfold slotFree
  iintro ⟨⟨%f0, H0⟩, ⟨%f1, H1⟩, ⟨%f2, H2⟩, ⟨%f3, H3⟩⟩
  ihave H := (pointsTo_biUnion_join (Ix := ℕ) (Name := ℕ) (U := UU) (Lvl := ℕ) (ℓ := (c : Thread nD τ).loc cc0_scratch2) (q := fullShare) Finset.univ (fun s : Fin 4 => slotWin s 256)
    (fun s => match s with | 0 => f0 | 1 => f1 | 2 => f2 | 3 => f3) f0 slots_disj) $$ [H0 H1 H2 H3]
  · rw [four]
    isplitl [H0]; · iexact H0
    isplitl [H1]; · iexact H1
    isplitl [H2]; · iexact H2
    iexact H3
  icases H with ⟨%g, -, H⟩
  iexists g
  rw [slots_all]
  iexact H

theorem pieces_apart : ∀ i i' : Fin 10, i ≠ i' → (pc i).val ≠ (pc i').val ∨ p0 i + pn i ≤ p0 i' ∨ p0 i' + pn i' ≤ p0 i := by decide

theorem pieces_disj : ∀ i ∈ (Finset.univ : Finset (Fin 10)), ∀ i' ∈ (Finset.univ : Finset (Fin 10)), i ≠ i' →
    Disjoint (recvWin (pc i) (p0 i) (pn i)) (recvWin (pc i') (p0 i') (pn i')) := by
  intro i _ i' _ hne
  rw [Finset.disjoint_left]
  intro j h h'
  simp only [recvWin, Finset.mem_filter, Finset.mem_univ, true_and] at h h'
  have := pieces_apart i i' hne
  omega

theorem pieces_cover : ∀ (c : Fin 8) (r : Fin 2), ∃ i : Fin 10, (pc i).val = c.val ∧ p0 i ≤ 128 * r.val ∧ 128 * r.val + 128 ≤ p0 i + pn i := by decide

theorem pieces_all : (Finset.univ : Finset (Fin 10)).biUnion (fun i => recvWin (pc i) (p0 i) (pn i)) = Finset.univ := by
  ext j
  simp only [Finset.mem_biUnion, Finset.mem_univ, true_and, iff_true]
  have hj : (j 1).val < 256 := (j 1).isLt
  obtain ⟨i, h0, h1, h2⟩ := pieces_cover (j 0) ⟨(j 1).val / 128, by omega⟩
  dsimp only at h1 h2
  exact ⟨i, Finset.mem_filter.mpr ⟨Finset.mem_univ _, h0.symm, by omega, by omega⟩⟩

/-- The receive buffer is the windows of the ten pieces. -/
theorem pieces_split (d : Dev nD) (f : Vec F S8x256x4096 .bf16) :
    pt d cc0_scratch3 f ⊢ (bigSep Finset.univ fun i : Fin 10 => iprop(∃ f : Vec F S8x256x4096 .bf16, ptOn d cc0_scratch3 (recvWin (pc i) (p0 i) (pn i)) f) : sProp 𝕄) := by
  have e : (pt d cc0_scratch3 f : sProp 𝕄) = bigSep Finset.univ fun i : Fin 10 => ptOn d cc0_scratch3 (recvWin (pc i) (p0 i) (pn i)) f := by
    refine Eq.trans ?_ (pointsTo_biUnion (Ix := ℕ) (Name := ℕ) (U := UU) (Lvl := ℕ) (ℓ := (d : Thread nD τ).loc cc0_scratch3) (q := fullShare) (f := f) Finset.univ (fun i : Fin 10 => recvWin (pc i) (p0 i) (pn i)) pieces_disj)
    rw [pieces_all]
  have h (i : Fin 10) : ptOn d cc0_scratch3 (recvWin (pc i) (p0 i) (pn i)) f
      ⊢ (iprop(∃ f : Vec F S8x256x4096 .bf16, ptOn d cc0_scratch3 (recvWin (pc i) (p0 i) (pn i)) f) : sProp 𝕄) := by
    iintro H
    iexists f
    iexact H
  exact (Entails.of_eq e).trans (bigSep_mono fun i _ => h i)

theorem chunks_disj : ∀ i ∈ (Finset.univ : Finset (Fin 8)), ∀ i' ∈ (Finset.univ : Finset (Fin 8)), i ≠ i' →
    Disjoint (recvWin i 0 256) (recvWin i' 0 256) := by
  intro i _ i' _ hne
  rw [Finset.disjoint_left]
  intro j h h'
  simp only [recvWin, Finset.mem_filter, Finset.mem_univ, true_and] at h h'
  exact hne (Fin.ext (by omega))

theorem chunks_all : (Finset.univ : Finset (Fin 8)).biUnion (fun i => recvWin i 0 256) = Finset.univ := by
  ext j
  simp only [Finset.mem_biUnion, Finset.mem_univ, true_and, iff_true]
  have hj : (j 1).val < 256 := (j 1).isLt
  exact ⟨j 0, Finset.mem_filter.mpr ⟨Finset.mem_univ _, rfl, Nat.zero_le _, by omega⟩⟩

/-- Eight chunks that arrived are the receive buffer. -/
theorem chunks_join (d : Dev nD) (f : Vec F S8x256x4096 .bf16) :
    (bigSep Finset.univ fun i : Fin 8 => ptOn d cc0_scratch3 (recvWin i 0 256) f) ⊢ (pt d cc0_scratch3 f : sProp 𝕄) := by
  refine Entails.of_eq (Eq.trans (pointsTo_biUnion (Ix := ℕ) (Name := ℕ) (U := UU) (Lvl := ℕ) (ℓ := (d : Thread nD τ).loc cc0_scratch3) (q := fullShare) (f := f) Finset.univ (fun i : Fin 8 => recvWin i 0 256) chunks_disj).symm ?_)
  rw [chunks_all]

end Cert.KernelIdeal

end
-- ==== Proof.Phases.lean ====
/-
  What one device holds before and after the run, and the phases of the run.
-/
module

public import proofs.«01_k».proof.Proof.Parts

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable [Facts]

local notation "𝕄" => MT nD τ sig ℕ (Elt F) ℕ UU ℕ

variable (I : Inputs F) (K : GSem nD τ sig → ℕ)

/-- Two families as one family of pairs. -/
theorem pairs_join {J : Type} (s : Finset J) (Φ Ψ : J → sProp 𝕄) : iprop(bigSep s Φ ∗ bigSep s Ψ) ⊢ bigSep s fun i => iprop(Φ i ∗ Ψ i) :=
  Entails.of_eq (bigSep_sep' s Φ Ψ).symm
/-- One family of pairs as two families. -/
theorem pairs_split {J : Type} (s : Finset J) (Φ Ψ : J → sProp 𝕄) : (bigSep s fun i => iprop(Φ i ∗ Ψ i)) ⊢ iprop(bigSep s Φ ∗ bigSep s Ψ) :=
  Entails.of_eq (bigSep_sep' s Φ Ψ)

/-! ## The run of one device -/

/-- What device `c` holds of piece `i` when the kernel is entered. -/
def piece (c : Dev nD) (i : Fin 10) : sProp 𝕄 :=
  iprop(dutyTok ER (sendC c i) 0 () ∗ reached ER (sendC c i) 0 ∗ dutyTok ER (recvC (pr c) i) 0 () ∗ atPos ER (sendC c i) 0 ∅ 0
    ∗ awaiting c i ∗ reached ER (recvC c i) 0)

/-- What it holds of the barrier. -/
def gate (c : Dev nD) : sProp 𝕄 :=
  iprop(dutyTok ER (barC (pr c)) 0 () ∗ dutyTok ER (barC (pr c)) 1 () ∗ reached ER (barC (pr c)) 0
    ∗ cred (tallyAt (barC c) 1 1) ∗ cred (tallyAt (barC c) 3 1) ∗ atPos ER (barC c) 0 ∅ 0)

/-- The buffers no window stages, the staging buffers of the kernel: at contents not chosen. -/
def spare (c : Dev nD) : sProp 𝕄 :=
  iprop((∃ f, pt c cc0_scratch0 f) ∗ (∃ f, pt c cc0_scratch1 f) ∗ (∃ f : Vec F S4x256x4096 .bf16, pt c cc0_scratch2 f)
    ∗ (∃ f : Vec F S8x256x4096 .bf16, pt c cc0_scratch3 f) ∗ (∃ f, pt c cc0_scratch4 f))

/-- The two semaphores of the local copies, at zero. -/
def locals (c : Dev nD) : sProp 𝕄 :=
  iprop(semVal ((c : Thread nD τ), .dma cc0_scratch5.sem) 0 ∗ semVal ((c : Thread nD τ), .dma cc0_scratch6.sem) 0)

/-- Before the run. -/
def before (c : Dev nD) (f : Vec F S4x512x4096 .f32) : sProp 𝕄 :=
  iprop((records I K ∗ levAts L lv) ∗ gate c ∗ (bigSep Finset.univ fun i => piece c i) ∗ spare c ∗ locals c
    ∗ pt c main_v2 (I.O c) ∗ pt c cc0_stg0_0 (I.W c) ∗ pt c main_v3 f ∗ owing c (Oall c))

/-- After it: the result is written, every semaphore is back at zero, and nothing is owed. -/
def after (c : Dev nD) : sProp 𝕄 :=
  iprop(semVal (barC c) 0 ∗ (bigSep Finset.univ fun i => iprop(semVal (sendC c i) 0 ∗ semVal (recvC c i) 0)) ∗ spare c ∗ locals c
    ∗ pt c main_v2 (I.O c) ∗ pt c cc0_stg0_0 (I.W c) ∗ pt c main_v3 (Gout I c) ∗ owing c 0)

/-- A piece is ready to be pushed once the barrier has handed over where it goes. -/
theorem ready_intro (c : Dev nD) :
    iprop((bigSep Finset.univ fun i => piece c i) ∗ barPay c)
      ⊢ (iprop((bigSep Finset.univ fun i => ready c i) ∗ (bigSep Finset.univ fun i => awaiting c i)) : sProp 𝕄) := by
  unfold barPay
  iintro ⟨Hp, ⟨%f, Hf⟩, Hr⟩
  ihave Hf := (pieces_split (pr c) f) $$ Hf
  ihave H := (pairs_join Finset.univ (fun i : Fin 10 => piece c i) _) $$ [Hp Hf]
  · isplitl [Hp]; · iexact Hp
    iexact Hf
  ihave H := (pairs_join Finset.univ _ (fun i : Fin 10 => reached ER (recvC (pr c) i) 0)) $$ [H Hr]
  · isplitl [H]; · iexact H
    iexact Hr
  iapply (pairs_split Finset.univ (fun i => ready c i) (fun i => awaiting c i))
  have step (i : Fin 10) : iprop((piece c i ∗ (∃ f : Vec F S8x256x4096 .bf16, ptOn (pr c) cc0_scratch3 (recvWin (pc i) (p0 i) (pn i)) f)) ∗ reached ER (recvC (pr c) i) 0)
      ⊢ (iprop(ready c i ∗ awaiting c i) : sProp 𝕄) := by
    unfold piece ready
    iintro ⟨⟨⟨Ht, #Hr, Ht', Hat, Ha, -⟩, Hf⟩, #Hr'⟩
    isplitr [Ha]
    · isplitl [Hf]; · iexact Hf
      isplitl [Ht]; · iexact Ht
      isplitr; · iexact Hr
      isplitl [Ht']; · iexact Ht'
      isplitr; · iexact Hr'
      iexact Hat
    iexact Ha
  have all : (bigSep Finset.univ fun i : Fin 10 => iprop((piece c i ∗ (∃ f : Vec F S8x256x4096 .bf16, ptOn (pr c) cc0_scratch3 (recvWin (pc i) (p0 i) (pn i)) f)) ∗ reached ER (recvC (pr c) i) 0))
      ⊢ (bigSep Finset.univ fun i => iprop(ready c i ∗ awaiting c i) : sProp 𝕄) := bigSep_mono fun i _ => step i
  iapply all
  iexact H

/-- That round 0 of every receive cell is reached, read off what is held. -/
theorem reached_recv (c : Dev nD) :
    (bigSep Finset.univ fun i => piece c i) ⊢ (iprop((bigSep Finset.univ fun i => piece c i) ∗ (bigSep Finset.univ fun i => reached ER (recvC c i) 0)) : sProp 𝕄) := by
  have step (i : Fin 10) : piece c i ⊢ (iprop(piece c i ∗ reached ER (recvC c i) 0) : sProp 𝕄) := by
    unfold piece
    iintro ⟨Ht, #Hr, Ht', Hat, Ha, #Hr'⟩
    isplitl [Ht Ht' Hat Ha]
    · isplitl [Ht]; · iexact Ht
      isplitr; · iexact Hr
      isplitl [Ht']; · iexact Ht'
      isplitl [Hat]; · iexact Hat
      isplitl [Ha]; · iexact Ha
      iexact Hr'
    iexact Hr'
  have all : (bigSep Finset.univ fun i => piece c i) ⊢ (bigSep Finset.univ fun i => iprop(piece c i ∗ reached ER (recvC c i) 0) : sProp 𝕄) :=
    bigSep_mono fun i _ => step i
  exact all.trans (pairs_split _ _ _)

/-- The debts after `m` pushes, as the step takes them. -/
theorem left_step (c : Dev nD) (i : Fin 10) (n : ℕ) (hn : n + i.val = 9) :
    Oleft c (n + 1) = Oleft c n + tallyAt (recvC (pr c) i) 2 (cr i) := by
  have h : n < 10 := by omega
  have hi : (⟨9 - n, by omega⟩ : Fin 10) = i := Fin.ext (by show 9 - n = i.val; omega)
  have e : Oleft c (n + 1) = Oleft c n + tallyAt (recvC (pr c) ⟨9 - n, by omega⟩) 2 (cr ⟨9 - n, by omega⟩) := dif_pos h
  rw [e, hi]

/-- A piece pushed through a free slot, with the debts counted. -/
theorem go_push (nr : ℕ) [hn : Rows nr] (c dev : Dev nD) (hdev : dev = pr c) (i : Fin 10) (s : Fin 4) (q₀ : Src nr) (q : Place nr) (hi : pn i = nr) (hs : s = ps i)
    (hc : q.c = pc i) (h0 : q.r0 = p0 i) (hG : ∀ x, Grecv I (pr c) ((recvView nr q).view.emb x) = part nr q₀ (I.O c) (I.W c) x)
    (n m : ℕ) (hm : m = n + 1) (hk : n + i.val = 9) {rest : P (F := F) PUnit} {Q : PUnit → sProp 𝕄} :
    iprop(facts I K c ∗ base I c (Oleft c m) ∗ slotFree c s ∗ ready c i)
      ⊢ iprop((base I c (Oleft c n) ∗ flying c i -∗ wpB c rest Q)
        -∗ wpB c (loadChunk nr q₀ >>= fun _ => fillSlot nr (Memref.whole cc0_stg0_0) s >>= fun _ => push nr dev i s q >>= fun _ => rest) Q) := by
  have hA : Above 0 (Oleft c (n + 1)) := (above_left c _).mono (Nat.zero_le _)
  rw [hm]
  rw [left_step c i n hk] at hA ⊢
  exact step_push I K nr c dev hdev i s q₀ q hi hs hc h0 hG (Oleft c n) hA rest Q

/-- The same through the slot of an earlier piece. -/
theorem go_repush (nr nr' : ℕ) [hn : Rows nr] [hn' : Rows nr'] (c dev : Dev nD) (hdev : dev = pr c) (i j : Fin 10) (s : Fin 4) (q₀ : Src nr) (q : Place nr) (q' : Place nr') (hi : pn i = nr) (hs : s = ps i)
    (hc : q.c = pc i) (h0 : q.r0 = p0 i) (hG : ∀ x, Grecv I (pr c) ((recvView nr q).view.emb x) = part nr q₀ (I.O c) (I.W c) x)
    (hj : pn j = nr') (hs' : s = ps j)
    (n m : ℕ) (hm : m = n + 1) (hk : n + i.val = 9) {rest : P (F := F) PUnit} {Q : PUnit → sProp 𝕄} :
    iprop(facts I K c ∗ base I c (Oleft c m) ∗ flying c j ∗ ready c i)
      ⊢ iprop((base I c (Oleft c n) ∗ flying c i ∗ left c j -∗ wpB c rest Q)
        -∗ wpB c (loadChunk nr q₀ >>= fun _ => waitSend nr' j s q' >>= fun _ => fillSlot nr (Memref.whole cc0_stg0_0) s >>= fun _ => push nr dev i s q >>= fun _ => rest) Q) := by
  have hA : Above 0 (Oleft c (n + 1)) := (above_left c _).mono (Nat.zero_le _)
  rw [hm]
  rw [left_step c i n hk] at hA ⊢
  exact step_repush I K nr nr' c dev hdev i j s q₀ q q' hi hs hc h0 hG hj hs' (Oleft c n) hA rest Q

theorem above_zero (c : Dev nD) : Above 0 (Oleft c 0) := (above_left c 0).mono (Nat.zero_le _)
theorem above_two (c : Dev nD) : Above 2 (Oleft c 0) := Above.tally _ _ (by decide) (by decide)

/-- One whole chunk received: product, the peer's rows, the sum copied out. -/
theorem go_chunk (c : Dev nD) (i : Fin 10) (ch : Fin 8) (s : Fin 4) (q₀ : Src 256) (hq : q₀ = own c ch) (hi : pn i = 256) (hc : pc i = ch) (h0 : p0 i = 0)
    (n m : ℕ) (hn : n = 256 * ch.val) (hm : m = n + 256) {rest : P (F := F) PUnit} {Q : PUnit → sProp 𝕄} :
    iprop(facts I K c ∗ mid I c (Oleft c 0) n ∗ awaiting c i)
      ⊢ iprop((mid I c (Oleft c 0) m ∗ atPos ER (recvC c i) 1 ∅ 0 ∗ landed I c ch -∗ wpB c rest Q)
        -∗ wpB c (loadChunk 256 q₀ >>= fun _ => product 256 (Memref.whole cc0_stg0_0) >>= fun p => waitRecv 256 i s (placeC ch) >>= fun _ =>
            finish p (placeC ch) (outC ch) >>= fun _ => rest) Q) := by
  subst hq hm hn
  unfold mid
  iintro ⟨#HF, ⟨HB, Ho⟩, Ha⟩ Hk
  iapply (step_product I K c (own c ch) (Oleft c 0) (above_zero c) _ Q) $$ [HB]
  · isplitr; · iexact HF
    iexact HB
  iintro HB
  iapply (step_waitRecv I K 256 c i s (placeC ch) hi (Oleft c 0) (above_two c) _ Q) $$ [HB Ha]
  · isplitr; · iexact HF
    isplitl [HB]; · iexact HB
    iexact Ha
  unfold arrived
  iintro ⟨HB, Hat, Hl, -⟩
  iapply (step_finish I K c ch (Oleft c 0) (above_zero c) rest Q) $$ [HB Ho Hl]
  · isplitr; · iexact HF
    unfold mid
    isplitl [HB Ho]
    · isplitl [HB]; · iexact HB
      iexact Ho
    rw [hi, hc, h0]
    iexact Hl
  unfold mid
  iintro ⟨Hm, Hl⟩
  iapply Hk
  isplitl [Hm]; · iexact Hm
  isplitl [Hat]; · iexact Hat
  iexact Hl

/-- The first chunk, which comes in two pieces. -/
theorem go_first (c : Dev nD) (q₀ : Src 256) (hq : q₀ = own c 0) {rest : P (F := F) PUnit} {Q : PUnit → sProp 𝕄} :
    iprop(facts I K c ∗ mid I c (Oleft c 0) 0 ∗ awaiting c 0 ∗ awaiting c 1)
      ⊢ iprop((mid I c (Oleft c 0) 256 ∗ (atPos ER (recvC c 0) 1 ∅ 0 ∗ atPos ER (recvC c 1) 1 ∅ 0) ∗ landed I c 0 ∗ reached ER (barC (pr c)) 1 -∗ wpB c rest Q)
        -∗ wpB c (loadChunk 256 q₀ >>= fun _ => product 256 (Memref.whole cc0_stg0_0) >>= fun p => waitRecv 128 0 0 place0 >>= fun _ =>
            waitRecv 128 1 1 place1 >>= fun _ => finish p (placeC 0) (outC 0) >>= fun _ => rest) Q) := by
  subst hq
  unfold mid
  iintro ⟨#HF, ⟨HB, Ho⟩, Ha, Ha'⟩ Hk
  iapply (step_product I K c (own c 0) (Oleft c 0) (above_zero c) _ Q) $$ [HB]
  · isplitr; · iexact HF
    iexact HB
  iintro HB
  iapply (step_waitRecv I K 128 c 0 0 place0 (by decide) (Oleft c 0) (above_two c) _ Q) $$ [HB Ha]
  · isplitr; · iexact HF
    isplitl [HB]; · iexact HB
    iexact Ha
  unfold arrived
  iintro ⟨HB, Hat, Hl, #Hr⟩
  iapply (step_waitRecv I K 128 c 1 1 place1 (by decide) (Oleft c 0) (above_two c) _ Q) $$ [HB Ha']
  · isplitr; · iexact HF
    isplitl [HB]; · iexact HB
    iexact Ha'
  unfold arrived
  iintro ⟨HB, Hat', Hl', -⟩
  iapply (step_finish I K c 0 (Oleft c 0) (above_zero c) rest Q) $$ [HB Ho Hl Hl']
  · isplitr; · iexact HF
    unfold mid
    isplitl [HB Ho]
    · isplitl [HB]; · iexact HB
      iexact Ho
    iapply (halves c 0 (Grecv I c))
    isplitl [Hl]; · iexact Hl
    iexact Hl'
  unfold mid
  iintro ⟨Hm, Hl⟩
  iapply Hk
  isplitl [Hm]; · iexact Hm
  isplitl [Hat Hat']
  · isplitl [Hat]; · iexact Hat
    iexact Hat'
  isplitl [Hl]; · iexact Hl
  iexact Hr

/-- The last chunk, finished half by half. -/
theorem go_last (c : Dev nD) (q₀ : Src 256) (hq : q₀ = own c 7) {rest : P (F := F) PUnit} {Q : PUnit → sProp 𝕄} :
    iprop(facts I K c ∗ mid I c (Oleft c 0) 1792 ∗ awaiting c 8 ∗ awaiting c 9)
      ⊢ iprop((mid I c (Oleft c 0) 2048 ∗ (atPos ER (recvC c 8) 1 ∅ 0 ∗ atPos ER (recvC c 9) 1 ∅ 0) ∗ landed I c 7 -∗ wpB c rest Q)
        -∗ wpB c (loadChunk 256 q₀ >>= fun _ => product 256 (Memref.whole cc0_stg0_0) >>= fun p => waitRecv 128 8 0 place8 >>= fun _ =>
            finishHalf p 0 place8 (outH 0) >>= fun _ => waitRecv 128 9 1 place9 >>= fun _ => finishHalf p 1 place9 (outH 1) >>= fun _ => rest) Q) := by
  subst hq
  unfold mid
  iintro ⟨#HF, ⟨HB, Ho⟩, Ha, Ha'⟩ Hk
  iapply (step_product I K c (own c 7) (Oleft c 0) (above_zero c) _ Q) $$ [HB]
  · isplitr; · iexact HF
    iexact HB
  iintro HB
  iapply (step_waitRecv I K 128 c 8 0 place8 (by decide) (Oleft c 0) (above_two c) _ Q) $$ [HB Ha]
  · isplitr; · iexact HF
    isplitl [HB]; · iexact HB
    iexact Ha
  unfold arrived
  iintro ⟨HB, Hat, Hl, -⟩
  iapply (step_finishHalf I K c 0 place8 rfl rfl (Oleft c 0) (above_zero c) _ Q) $$ [HB Ho Hl]
  · isplitr; · iexact HF
    unfold mid
    isplitl [HB Ho]
    · isplitl [HB]; · iexact HB
      iexact Ho
    iexact Hl
  unfold mid
  iintro ⟨⟨HB, Ho⟩, Hl⟩
  iapply (step_waitRecv I K 128 c 9 1 place9 (by decide) (Oleft c 0) (above_two c) _ Q) $$ [HB Ha']
  · isplitr; · iexact HF
    isplitl [HB]; · iexact HB
    iexact Ha'
  unfold arrived
  iintro ⟨HB, Hat', Hl', -⟩
  iapply (step_finishHalf I K c 1 place9 rfl rfl (Oleft c 0) (above_zero c) _ Q) $$ [HB Ho Hl']
  · isplitr; · iexact HF
    unfold mid
    isplitl [HB Ho]
    · isplitl [HB]; · iexact HB
      iexact Ho
    iexact Hl'
  unfold mid
  iintro ⟨Hm, Hl'⟩
  iapply Hk
  isplitl [Hm]; · iexact Hm
  isplitl [Hat Hat']
  · isplitl [Hat]; · iexact Hat
    iexact Hat'
  iapply (halves c 7 (Grecv I c))
  isplitl [Hl]; · iexact Hl
  iexact Hl'

end Cert.KernelIdeal

end
-- ==== Proof.Run.lean ====
/-
  The run of one device, from the entry barrier to the exit barrier.
-/
module

public import proofs.«01_k».proof.Proof.Phases

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]
variable [Facts]

local notation "𝕄" => MT nD τ sig ℕ (Elt F) ℕ UU ℕ

variable (I : Inputs F) (K : GSem nD τ sig → ℕ)

/-- A send cell is closed after its one round. -/
theorem close_send (c : Dev nD) (i : Fin 10) : iprop(records I K ∗ left c i) ⊢ (|={Set.univ}=> semVal (sendC c i) 0 : sProp 𝕄) := by
  unfold left
  iintro ⟨#HI, Hat⟩
  iapply (Rounds.cell_close ER (Rd I) (Set.mem_univ (K (sendC c i))) (fun h => h) (R := 1)
    (fun r hr => duties_none I r (sendC c i) (by show nRounds (role (.dma (sendSem i))) ≤ r; rw [role_send]; exact hr)))
  isplitr; · iapply (inv_send I K c i); iexact HI
  iexact Hat

/-- A receive cell is closed after its one round. -/
theorem close_recv (c : Dev nD) (i : Fin 10) : iprop(records I K ∗ atPos ER (recvC c i) 1 ∅ 0) ⊢ (|={Set.univ}=> semVal (recvC c i) 0 : sProp 𝕄) := by
  iintro ⟨#HI, Hat⟩
  iapply (Rounds.cell_close ER (Rd I) (Set.mem_univ (K (recvC c i))) (fun h => h) (R := 1)
    (fun r hr => duties_none I r (recvC c i) (by show nRounds (role (.dma (recvSem i))) ≤ r; rw [role_recv]; exact hr)))
  isplitr; · iapply (inv_recv I K c i); iexact HI
  iexact Hat

/-- The barrier cell is closed after its two rounds. -/
theorem close_bar (c : Dev nD) : iprop(records I K ∗ atPos ER (barC c) 2 ∅ 0) ⊢ (|={Set.univ}=> semVal (barC c) 0 : sProp 𝕄) := by
  iintro ⟨#HI, Hat⟩
  iapply (Rounds.cell_close ER (Rd I) (Set.mem_univ (K (barC c))) (fun h => h) (R := 2)
    (fun r hr => duties_none I r (barC c) hr))
  isplitr; · iapply (inv_bar I K c); iexact HI
  iexact Hat

/-- Every send and receive cell closed. -/
theorem close_all (c : Dev nD) :
    iprop(records I K ∗ (bigSep Finset.univ fun i => iprop(left c i ∗ atPos ER (recvC c i) 1 ∅ 0)))
      ⊢ (|={Set.univ}=> bigSep Finset.univ fun i => iprop(semVal (sendC c i) 0 ∗ semVal (recvC c i) 0) : sProp 𝕄) := by
  have step (i : Fin 10) : iprop(records I K ∗ (left c i ∗ atPos ER (recvC c i) 1 ∅ 0))
      ⊢ (|={Set.univ}=> iprop(semVal (sendC c i) 0 ∗ semVal (recvC c i) 0) : sProp 𝕄) := by
    iintro ⟨#HI, Hs, Hr⟩
    imod (close_send I K c i) $$ [Hs] with Hs
    · isplitr; · iexact HI
      iexact Hs
    imod (close_recv I K c i) $$ [Hr] with Hr
    · isplitr; · iexact HI
      iexact Hr
    imodintro
    isplitl [Hs]; · iexact Hs
    iexact Hr
  exact (bigSep_with_persistent (fun i _ => step i)).trans (bigSep_fupd _ _)

theorem pay_first (c : Dev nD) : (pay I c 0 .bar : sProp 𝕄) = barPay c := by
  show (if (0 : ℕ) = 0 then barPay c else iprop(emp)) = barPay c
  exact if_pos rfl

theorem facts_intro (c : Dev nD) : iprop(records I K ∗ levAts L lv ∗ reached ER (barC c) 1) ⊢ facts I K c := .rfl
theorem base_intro (c : Dev nD) (D : CellTallies nD τ sig ℕ) :
    iprop(pt c main_v2 (I.O c) ∗ ((∃ f, pt c cc0_scratch0 f) ∗ (∃ f, pt c cc0_scratch1 f) ∗ pt c cc0_stg0_0 (I.W c))
      ∗ semVal ((c : Thread nD τ), .dma cc0_scratch5.sem) 0 ∗ owing c D) ⊢ base I c D := .rfl
theorem mid_intro (c : Dev nD) (D : CellTallies nD τ sig ℕ) (n : ℕ) :
    iprop(base I c D ∗ (∃ a, pt c cc0_scratch4 a) ∗ (∃ f, ⌜written I c n f⌝ ∗ pt c main_v3 f) ∗ semVal ((c : Thread nD τ), .dma cc0_scratch6.sem) 0)
      ⊢ mid I c D n := .rfl

/-- The end of the run: every cell closed. -/
theorem ending (c : Dev nD) :
    iprop((owing c 0 ∗ atPos ER (barC c) 2 ∅ 0) ∗ (records I K ∗ (bigSep Finset.univ fun i => iprop(left c i ∗ atPos ER (recvC c i) 1 ∅ 0)) ∗ spare c ∗ locals c
        ∗ pt c main_v2 (I.O c) ∗ pt c cc0_stg0_0 (I.W c) ∗ pt c main_v3 (Gout I c)))
      ⊢ (|={Set.univ}=> after I c : sProp 𝕄) := by
  unfold after
  iintro ⟨⟨How, Hba⟩, #HI, Hcells, Hsp, Hlo, HO, HW, Hout⟩
  imod (close_bar I K c) $$ [Hba] with Hba
  · isplitr; · iexact HI
    iexact Hba
  imod (close_all I K c) $$ [Hcells] with Hcells
  · isplitr; · iexact HI
    iexact Hcells
  imodintro
  isplitl [Hba]; · iexact Hba
  isplitl [Hcells]; · iexact Hcells
  isplitl [Hsp]; · iexact Hsp
  isplitl [Hlo]; · iexact Hlo
  isplitl [HO]; · iexact HO
  isplitl [HW]; · iexact HW
  isplitl [Hout]; · iexact Hout
  iexact How

/-- Everything written is the result. -/
theorem written_all (c : Dev nD) (f : Vec F S4x512x4096 .f32) (h : written I c 2048 f) : f = Gout I c := by
  funext j
  have h0 : (j 0).val < 4 := (j 0).isLt
  have h1 : (j 1).val < 512 := (j 1).isLt
  exact h j (by omega)

/-- The second barrier: the last statement. -/
theorem go_exit (c dev : Dev nD) (hdev : dev = pr c) :
    iprop(records I K ∗ levAts L lv ∗ owing c (Oleft c 0) ∗ dutyTok ER (barC (pr c)) 1 () ∗ reached ER (barC (pr c)) 1
        ∗ cred (tallyAt (barC c) 3 1) ∗ atPos ER (barC c) 1 ∅ 0)
      ⊢ wpB c (barrier (F := F) dev) fun _ => iprop(owing c 0 ∗ atPos ER (barC c) 2 ∅ 0) := by
  have e : Oleft c 0 = 0 + tallyAt (barC (pr c)) 3 1 := (zero_add _).symm
  iintro ⟨#HI, #Hlev, How, Ht, #Hr, Hc, Hat⟩
  rw [e]
  iapply (wp_mono (Fr := frame) (wpE := wpE (defs₀ (F := F)) 𝒱₀ (c : Thread nD τ) none) (E := Set.univ) (p := barrier (F := F) dev)
    (fun _ => show iprop(owing c 0 ∗ atPos ER (barC c) (1 + 1) ∅ 0 ∗ reached ER (barC c) (1 + 1) ∗ pay I c 1 .bar) ⊢ iprop(owing c 0 ∗ atPos ER (barC c) 2 ∅ 0) by
      iintro ⟨How, Hat, -, -⟩
      isplitl [How]; · iexact How
      iexact Hat))
  iapply (wp_barrier I K c dev hdev 1 (by decide) 3 (by decide) 0 (Above.zero _))
  isplitr; · iexact HI
  isplitr; · iexact Hlev
  isplitl [How]; · iexact How
  isplitl [Ht]; · iexact Ht
  isplitr; · unfold pay; rw [if_neg (by decide)]; iempintro
  isplitr; · iexact Hr
  isplitl [Hc]; · iexact Hc
  iexact Hat

/-- **The run of one device.** -/
theorem run_body (c : Dev nD) (f : Vec F S4x512x4096 .f32) :
    before I K c f ⊢ wpB c (bodyS (F := F) (Memref.whole cc0_stg0_0)) fun _ => after I c := by
  unfold before gate spare locals
  iintro ⟨⟨#HI, #Hlev⟩, ⟨Hbt0, Hbt1, #Hbr, Hbc0, Hbc1, Hba⟩, Hp, ⟨Hs0, Hs1, ⟨%f2, Hs2⟩, Hs3, Hs4⟩, ⟨Hv5, Hv6⟩, HO, HW, Hout, How⟩
  unfold bodyS wpB
  simp only [Prog.lift, Prog.bind_op, wp_deviceId, Prog.bind_ret]
  ihave Hp := (reached_recv c) $$ Hp
  icases Hp with ⟨Hp, #Hrr⟩
  iapply (wp_then c (wp_barrier I K c _ (dev1_eq c) 0 (by decide) 1 (by decide) (Oleft c 10) (above_left c 10)) _) $$ [How Hbt0 Hbc0 Hba Hs3]
  · isplitr; · iexact HI
    isplitr; · iexact Hlev
    isplitl [How]; · iexact How
    isplitl [Hbt0]; · iexact Hbt0
    isplitl [Hs3]
    · unfold pay barPay
      rw [if_pos rfl, pr_pr]
      isplitl [Hs3]; · iexact Hs3
      iexact Hrr
    isplitr; · iexact Hbr
    isplitl [Hbc0]; · iexact Hbc0
    iexact Hba
  iintro %_ ⟨How, Hba, #Hb1, Hpay⟩
  ihave Hpay := (Entails.of_eq (pay_first I c)) $$ Hpay
  ihave H := (ready_intro c) $$ [Hp Hpay]
  · isplitl [Hp]; · iexact Hp
    iexact Hpay
  icases H with ⟨Hrd, Haw⟩
  ihave Hrd := (Entails.of_eq (ten fun i => ready c i)) $$ Hrd
  icases Hrd with ⟨Hr0, Hr1, Hr2, Hr3, Hr4, Hr5, Hr6, Hr7, Hr8, Hr9⟩
  ihave Haw := (Entails.of_eq (ten fun i => awaiting c i)) $$ Haw
  icases Haw with ⟨Ha0, Ha1, Ha2, Ha3, Ha4, Ha5, Ha6, Ha7, Ha8, Ha9⟩
  ihave Hs2 := (slots_split c f2) $$ Hs2
  icases Hs2 with ⟨Hsl0, Hsl1, Hsl2, Hsl3⟩
  ihave #HF := (facts_intro I K c) $$ []
  · isplitr; · iexact HI
    isplitr; · iexact Hlev
    iexact Hb1
  ihave HB := (base_intro I c (Oleft c 10)) $$ [HO Hs0 Hs1 HW Hv5 How]
  · isplitl [HO]; · iexact HO
    isplitl [Hs0 Hs1 HW]
    · isplitl [Hs0]; · iexact Hs0
      isplitl [Hs1]; · iexact Hs1
      iexact HW
    isplitl [Hv5]; · iexact Hv5
    iexact How
  iapply (go_push I K 128 c _ (dev2_eq c) 0 0 (src0 c) place0 (by decide) rfl rfl rfl
    (fun x => (Grecv_half I c place0 0 (Or.inl rfl) rfl x).trans (congrArg (fun q => part 128 q (I.O c) (I.W c) x) (src0_eq c).symm)) 9 10 rfl rfl) $$ [HB Hsl0 Hr0]
  · isplitr; · iexact HF
    isplitl [HB]; · iexact HB
    isplitl [Hsl0]; · iexact Hsl0
    iexact Hr0
  iintro ⟨HB, Hf0⟩
  iapply (go_push I K 128 c _ (dev3_eq c) 1 1 (src1 c) place1 (by decide) rfl rfl rfl
    (fun x => (Grecv_half I c place1 1 (Or.inl rfl) rfl x).trans (congrArg (fun q => part 128 q (I.O c) (I.W c) x) (src1_eq c).symm)) 8 9 rfl rfl) $$ [HB Hsl1 Hr1]
  · isplitr; · iexact HF
    isplitl [HB]; · iexact HB
    isplitl [Hsl1]; · iexact Hsl1
    iexact Hr1
  iintro ⟨HB, Hf1⟩
  iapply (go_push I K 256 c _ (dev4_eq c) 2 2 (src2 c) (placeC 1) (by decide) rfl rfl rfl
    (fun x => (Grecv_whole I c (placeC 1) (by decide) x).trans (congrArg (fun q => part 256 q (I.O c) (I.W c) x) (src2_eq c).symm)) 7 8 rfl rfl) $$ [HB Hsl2 Hr2]
  · isplitr; · iexact HF
    isplitl [HB]; · iexact HB
    isplitl [Hsl2]; · iexact Hsl2
    iexact Hr2
  iintro ⟨HB, Hf2⟩
  iapply (go_push I K 256 c _ (dev5_eq c) 3 3 (src3 c) (placeC 2) (by decide) rfl rfl rfl
    (fun x => (Grecv_whole I c (placeC 2) (by decide) x).trans (congrArg (fun q => part 256 q (I.O c) (I.W c) x) (src3_eq c).symm)) 6 7 rfl rfl) $$ [HB Hsl3 Hr3]
  · isplitr; · iexact HF
    isplitl [HB]; · iexact HB
    isplitl [Hsl3]; · iexact Hsl3
    iexact Hr3
  iintro ⟨HB, Hf3⟩
  iapply (go_repush I K 256 128 c _ (dev6_eq c) 4 0 0 (src4 c) (placeC 3) place0 (by decide) rfl rfl rfl
    (fun x => (Grecv_whole I c (placeC 3) (by decide) x).trans (congrArg (fun q => part 256 q (I.O c) (I.W c) x) (src4_eq c).symm)) (by decide) rfl 5 6 rfl rfl) $$ [HB Hf0 Hr4]
  · isplitr; · iexact HF
    isplitl [HB]; · iexact HB
    isplitl [Hf0]; · iexact Hf0
    iexact Hr4
  iintro ⟨HB, Hf4, Hl0⟩
  iapply (go_repush I K 256 128 c _ (dev7_eq c) 5 1 1 (src5 c) (placeC 4) place1 (by decide) rfl rfl rfl
    (fun x => (Grecv_whole I c (placeC 4) (by decide) x).trans (congrArg (fun q => part 256 q (I.O c) (I.W c) x) (src5_eq c).symm)) (by decide) rfl 4 5 rfl rfl) $$ [HB Hf1 Hr5]
  · isplitr; · iexact HF
    isplitl [HB]; · iexact HB
    isplitl [Hf1]; · iexact Hf1
    iexact Hr5
  iintro ⟨HB, Hf5, Hl1⟩
  iapply (go_repush I K 256 256 c _ (dev8_eq c) 6 2 2 (src6 c) (placeC 5) (placeC 1) (by decide) rfl rfl rfl
    (fun x => (Grecv_whole I c (placeC 5) (by decide) x).trans (congrArg (fun q => part 256 q (I.O c) (I.W c) x) (src6_eq c).symm)) (by decide) rfl 3 4 rfl rfl) $$ [HB Hf2 Hr6]
  · isplitr; · iexact HF
    isplitl [HB]; · iexact HB
    isplitl [Hf2]; · iexact Hf2
    iexact Hr6
  iintro ⟨HB, Hf6, Hl2⟩
  iapply (go_repush I K 256 256 c _ (dev9_eq c) 7 3 3 (src7 c) (placeC 6) (placeC 2) (by decide) rfl rfl rfl
    (fun x => (Grecv_whole I c (placeC 6) (by decide) x).trans (congrArg (fun q => part 256 q (I.O c) (I.W c) x) (src7_eq c).symm)) (by decide) rfl 2 3 rfl rfl) $$ [HB Hf3 Hr7]
  · isplitr; · iexact HF
    isplitl [HB]; · iexact HB
    isplitl [Hf3]; · iexact Hf3
    iexact Hr7
  iintro ⟨HB, Hf7, Hl3⟩
  iapply (go_repush I K 128 256 c _ (dev10_eq c) 8 4 0 (src8 c) place8 (placeC 3) (by decide) rfl rfl rfl
    (fun x => (Grecv_half I c place8 0 (Or.inr rfl) rfl x).trans (congrArg (fun q => part 128 q (I.O c) (I.W c) x) (src8_eq c).symm)) (by decide) rfl 1 2 rfl rfl) $$ [HB Hf4 Hr8]
  · isplitr; · iexact HF
    isplitl [HB]; · iexact HB
    isplitl [Hf4]; · iexact Hf4
    iexact Hr8
  iintro ⟨HB, Hf8, Hl4⟩
  iapply (go_repush I K 128 256 c _ (dev11_eq c) 9 5 1 (src9 c) place9 (placeC 4) (by decide) rfl rfl rfl
    (fun x => (Grecv_half I c place9 1 (Or.inr rfl) rfl x).trans (congrArg (fun q => part 128 q (I.O c) (I.W c) x) (src9_eq c).symm)) (by decide) rfl 0 1 rfl rfl) $$ [HB Hf5 Hr9]
  · isplitr; · iexact HF
    isplitl [HB]; · iexact HB
    isplitl [Hf5]; · iexact Hf5
    iexact Hr9
  iintro ⟨HB, Hf9, Hl5⟩
  ihave HM := (mid_intro I c (Oleft c 0) 0) $$ [HB Hs4 Hout Hv6]
  · isplitl [HB]; · iexact HB
    isplitl [Hs4]; · iexact Hs4
    isplitl [Hout]
    · iexists f
      isplitr; · ipureintro; exact fun j hj => absurd hj (Nat.not_lt_zero _)
      iexact Hout
    iexact Hv6
  iapply (go_first I K c (src10 c) (src10_eq c)) $$ [HM Ha0 Ha1]
  · isplitr; · iexact HF
    isplitl [HM]; · iexact HM
    isplitl [Ha0]; · iexact Ha0
    iexact Ha1
  iintro ⟨HM, ⟨Hat0, Hat1⟩, Hc0, #Hbr1⟩
  iapply (go_chunk I K c 2 1 2 (src11 c) (src11_eq c) (by decide) rfl rfl 256 512 rfl rfl) $$ [HM Ha2]
  · isplitr; · iexact HF
    isplitl [HM]; · iexact HM
    iexact Ha2
  iintro ⟨HM, Hat2, Hc1⟩
  iapply (go_chunk I K c 3 2 3 (src12 c) (src12_eq c) (by decide) rfl rfl 512 768 rfl rfl) $$ [HM Ha3]
  · isplitr; · iexact HF
    isplitl [HM]; · iexact HM
    iexact Ha3
  iintro ⟨HM, Hat3, Hc2⟩
  iapply (go_chunk I K c 4 3 0 (src13 c) (src13_eq c) (by decide) rfl rfl 768 1024 rfl rfl) $$ [HM Ha4]
  · isplitr; · iexact HF
    isplitl [HM]; · iexact HM
    iexact Ha4
  iintro ⟨HM, Hat4, Hc3⟩
  iapply (go_chunk I K c 5 4 1 (src14 c) (src14_eq c) (by decide) rfl rfl 1024 1280 rfl rfl) $$ [HM Ha5]
  · isplitr; · iexact HF
    isplitl [HM]; · iexact HM
    iexact Ha5
  iintro ⟨HM, Hat5, Hc4⟩
  iapply (go_chunk I K c 6 5 2 (src15 c) (src15_eq c) (by decide) rfl rfl 1280 1536 rfl rfl) $$ [HM Ha6]
  · isplitr; · iexact HF
    isplitl [HM]; · iexact HM
    iexact Ha6
  iintro ⟨HM, Hat6, Hc5⟩
  iapply (go_chunk I K c 7 6 3 (src16 c) (src16_eq c) (by decide) rfl rfl 1536 1792 rfl rfl) $$ [HM Ha7]
  · isplitr; · iexact HF
    isplitl [HM]; · iexact HM
    iexact Ha7
  iintro ⟨HM, Hat7, Hc6⟩
  iapply (go_last I K c (src17 c) (src17_eq c)) $$ [HM Ha8 Ha9]
  · isplitr; · iexact HF
    isplitl [HM]; · iexact HM
    isplitl [Ha8]; · iexact Ha8
    iexact Ha9
  iintro ⟨HM, ⟨Hat8, Hat9⟩, Hc7⟩
  unfold mid
  icases HM with ⟨HB, Ho⟩
  iapply (step_waitSend I K 256 c 6 2 (placeC 5) (by decide) rfl (Oleft c 0) (above_zero c) _ _) $$ [HB Hf6]
  · isplitr; · iexact HF
    isplitl [HB]; · iexact HB
    iexact Hf6
  iintro ⟨HB, Hsl2, Hl6⟩
  iapply (step_waitSend I K 256 c 7 3 (placeC 6) (by decide) rfl (Oleft c 0) (above_zero c) _ _) $$ [HB Hf7]
  · isplitr; · iexact HF
    isplitl [HB]; · iexact HB
    iexact Hf7
  iintro ⟨HB, Hsl3, Hl7⟩
  iapply (step_waitSend I K 128 c 8 0 place8 (by decide) rfl (Oleft c 0) (above_zero c) _ _) $$ [HB Hf8]
  · isplitr; · iexact HF
    isplitl [HB]; · iexact HB
    iexact Hf8
  iintro ⟨HB, Hsl0, Hl8⟩
  iapply (step_waitSend I K 128 c 9 1 place9 (by decide) rfl (Oleft c 0) (above_zero c) _ _) $$ [HB Hf9]
  · isplitr; · iexact HF
    isplitl [HB]; · iexact HB
    iexact Hf9
  iintro ⟨HB, Hsl1, Hl9⟩
  unfold base outUpTo
  icases HB with ⟨HO, ⟨Hs0, Hs1, HW⟩, Hv5, How⟩
  icases Ho with ⟨Hs4, ⟨%g, %hg, Hout⟩, Hv6⟩
  obtain rfl := written_all I c g hg
  ihave H := (go_exit I K c _ (dev12_eq c)) $$ [How Hbt1 Hbc1 Hba]
  · isplitr; · iexact HI
    isplitr; · iexact Hlev
    isplitl [How]; · iexact How
    isplitl [Hbt1]; · iexact Hbt1
    isplitr; · iexact Hbr1
    isplitl [Hbc1]; · iexact Hbc1
    iexact Hba
  ihave H := (wp_frame_r (Fr := frame) (wpE := wpE (defs₀ (F := F)) 𝒱₀ (c : Thread nD τ) none) (E := Set.univ) (Q := fun _ => iprop(owing c 0 ∗ atPos ER (barC c) 2 ∅ 0))
      (R := iprop(records I K ∗ (bigSep Finset.univ fun i => iprop(left c i ∗ atPos ER (recvC c i) 1 ∅ 0)) ∗ spare c ∗ locals c
        ∗ pt c main_v2 (I.O c) ∗ pt c cc0_stg0_0 (I.W c) ∗ pt c main_v3 (Gout I c)))) $$ [H Hl0 Hat0 Hl1 Hat1 Hl2 Hat2 Hl3 Hat3 Hl4 Hat4 Hl5 Hat5 Hl6 Hat6 Hl7 Hat7 Hl8 Hat8 Hl9 Hat9 Hc0 Hc1 Hc2 Hc3 Hc4 Hc5 Hc6 Hc7 Hsl0 Hsl1 Hsl2 Hsl3 Hs0 Hs1 Hs4 Hv5 Hv6 HO HW Hout]
  · isplitl [H]; · iexact H
    isplitr; · iexact HI
    isplitl [Hl0 Hat0 Hl1 Hat1 Hl2 Hat2 Hl3 Hat3 Hl4 Hat4 Hl5 Hat5 Hl6 Hat6 Hl7 Hat7 Hl8 Hat8 Hl9 Hat9]
    · iapply (Entails.of_eq (ten fun i => iprop(left c i ∗ atPos ER (recvC c i) 1 ∅ 0)).symm)
      isplitl [Hl0 Hat0]
      · isplitl [Hl0]; · iexact Hl0
        iexact Hat0
      isplitl [Hl1 Hat1]
      · isplitl [Hl1]; · iexact Hl1
        iexact Hat1
      isplitl [Hl2 Hat2]
      · isplitl [Hl2]; · iexact Hl2
        iexact Hat2
      isplitl [Hl3 Hat3]
      · isplitl [Hl3]; · iexact Hl3
        iexact Hat3
      isplitl [Hl4 Hat4]
      · isplitl [Hl4]; · iexact Hl4
        iexact Hat4
      isplitl [Hl5 Hat5]
      · isplitl [Hl5]; · iexact Hl5
        iexact Hat5
      isplitl [Hl6 Hat6]
      · isplitl [Hl6]; · iexact Hl6
        iexact Hat6
      isplitl [Hl7 Hat7]
      · isplitl [Hl7]; · iexact Hl7
        iexact Hat7
      isplitl [Hl8 Hat8]
      · isplitl [Hl8]; · iexact Hl8
        iexact Hat8
      isplitl [Hl9]; · iexact Hl9
      iexact Hat9
    isplitl [Hs0 Hs1 Hsl0 Hsl1 Hsl2 Hsl3 Hs4 Hc0 Hc1 Hc2 Hc3 Hc4 Hc5 Hc6 Hc7]
    · unfold spare
      isplitl [Hs0]; · iexact Hs0
      isplitl [Hs1]; · iexact Hs1
      isplitl [Hsl0 Hsl1 Hsl2 Hsl3]
      · iapply (slots_join c)
        isplitl [Hsl0]; · iexact Hsl0
        isplitl [Hsl1]; · iexact Hsl1
        isplitl [Hsl2]; · iexact Hsl2
        iexact Hsl3
      isplitl [Hc0 Hc1 Hc2 Hc3 Hc4 Hc5 Hc6 Hc7]
      · iexists (Grecv I c)
        iapply (chunks_join c (Grecv I c))
        iapply (Entails.of_eq (eight fun i => ptOn c cc0_scratch3 (recvWin i 0 256) (Grecv I c)).symm)
        isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        iexact Hc7
      iexact Hs4
    isplitl [Hv5 Hv6]
    · unfold locals
      isplitl [Hv5]; · iexact Hv5
      iexact Hv6
    isplitl [HO]; · iexact HO
    isplitl [HW]; · iexact HW
    iexact Hout
  iapply (wp_fupd frame (wpE (defs₀ (F := F)) 𝒱₀ (c : Thread nD τ) none) Set.univ _ (fun _ => after I c))
  iapply (wp_mono (Fr := frame) (wpE := wpE (defs₀ (F := F)) 𝒱₀ (c : Thread nD τ) none) (E := Set.univ) (fun _ => ending I K c))
  iexact H

end Cert.KernelIdeal

end
-- ==== Proof.BodyEq.lean ====
/-
  The printed body is the structured program of `Body`.
-/
module

public import proofs.«01_k».proof.Proof.Body

@[expose] public section

noncomputable section

namespace Cert.KernelIdeal

open Idealize.ShloMosaic Idealize.SL.Sem

variable {F : FTy → Type} [FloatOps F]
variable [Facts]

set_option maxRecDepth 1000000 in
set_option maxHeartbeats 0 in
/-- The printed body, on the buffers the launch calls it with, is the structured program. -/
theorem body_eq (arg1 : Memref sig .tc .vmem S2048x4096 .bf16) (harg1 : arg1.IsWhole) :
    cc0_body (F := F) (Memref.whole main_v2) (Memref.isWhole_whole _) arg1 harg1 (Memref.whole main_v3) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) cc0_scratch5 cc0_scratch6 cc0_scratch7 cc0_scratch8
    = bodyS arg1 := rfl

end Cert.KernelIdeal

end
-- ==== Proof.Region.lean ====
/-
  The kernel's region: what it is entered with, what it leaves, and the run of its body between.
-/
module

public import proofs.«01_k».proof.Proof.Run
public import proofs.«01_k».proof.Proof.BodyEq
public import proofs.«01_k».proof.Proof.Gen.KernelIdeal.Launch
public import proofs.«01_k».proof.Proof.Gen.KernelIdeal.Frame
public import Idealize.ShloMosaic.Lib.Pipeline.RegionTalk

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

/-! ## The inputs as the region finds them -/

/-- The activations reshaped and the weights rounded, on every device. -/
def inp : Inputs F := ⟨fun c => Gen.V m c main_v2, fun c => Gen.V m c main_v1⟩

/-- The window's one block is the whole of its array. -/
theorem block_whole (c : Dev nD) (f : FVec F S2048x4096 .bf16) :
    ((Pipeline.Window.blk win0_0 Gen.t0_0).view.read (Elt F) f : S2048x4096.Idx → Elt F .bf16) = f := by
  funext y
  refine congrArg f (idx2_ext ?_ ?_)
  · show (0 * 2048 + 1 * (y 0).val) = (y 0).val
    omega
  · show (0 * 4096 + 1 * (y 1).val) = (y 1).val
    omega

/-! ## The proof data -/

/-- What is held when the region is entered, the inputs apart. -/
def entry (c : Dev nD) : sProp 𝕄 :=
  iprop((∃ K, records (inp m) K) ∗ levAts L lv ∗ gate c ∗ (bigSep Finset.univ fun i => piece c i) ∗ locals c)

/-- What is held when it is left. -/
def leave (c : Dev nD) : sProp 𝕄 :=
  iprop(semVal (barC c) 0 ∗ (bigSep Finset.univ fun i => iprop(semVal (sendC c i) 0 ∗ semVal (recvC c i) 0)) ∗ locals c)

/-- Before the one point. -/
def atStart (c : Dev nD) : sProp 𝕄 :=
  iprop(entry m c ∗ spare c ∗ pt c main_v2 ((inp m).O c) ∗ pt c main_v3 (Gen.V m c main_v3) ∗ ∃ r, prngReg c r)
/-- After it. -/
def atEnd (c : Dev nD) : sProp 𝕄 :=
  iprop(leave c ∗ spare c ∗ pt c main_v2 ((inp m).O c) ∗ pt c main_v3 (Gout (inp m) c) ∗ ∃ r, prngReg c r)

/-- What holds after `n` points. -/
def invAt (c : Dev nD) (n : ℕ) : sProp 𝕄 := if n = 0 then atStart m c else atEnd m c
/-- What is owed after `n` points. -/
def owedAt (c : Dev nD) (n : ℕ) : CellTallies nD τ sig ℕ := if n = 0 then Oall c else 0

theorem invAt_zero (c : Dev nD) : invAt m c 0 = atStart m c := if_pos rfl
theorem invAt_one (c : Dev nD) : invAt m c 1 = atEnd m c := if_neg (by decide)
theorem owedAt_zero (c : Dev nD) : owedAt c 0 = Oall c := if_pos rfl
theorem owedAt_one (c : Dev nD) : owedAt c 1 = 0 := if_neg (by decide)

/-- The region's data: the weights staged whole, everything owed before the point and nothing after. -/
def dat (c : Dev nD) : Dat τ (Elt F) ℕ ℕ UU ℕ cfg0 c where
  A w := Gen.V m c (Pipeline.arrRef spec0 w)
  after := fun | 0 => fun t => Gen.iblk m c 0 t | ⟨_ + 1, h⟩ => absurd h (Nat.not_lt.2 (Nat.le_add_left _ _))
  Φ t := invAt m c t.val
  q _ := fullShare
  owed t := owedAt c t.val

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c := fun _ => dat m

theorem owed_start (c : Dev nD) : (dat m c).owed Gen.t0_0.castSucc = Oall c := owedAt_zero c
theorem owed_zero (c : Dev nD) : (pdats m 0 c).owed 0 = Oall c := owedAt_zero c
theorem owed_end (c : Dev nD) : (dat m c).owed Gen.t0_0.succ = 0 := owedAt_one c
theorem owed_last (c : Dev nD) : (pdats m 0 c).owed (Fin.last _) = 0 := by
  show owedAt c cfg0.N = 0
  rw [show cfg0.N = 1 from Gen.N_0]; exact owedAt_one c
theorem inv_start (c : Dev nD) : (dat m c).Φ Gen.t0_0.castSucc = atStart m c := invAt_zero m c
theorem inv_zero (c : Dev nD) : (pdats m 0 c).Φ 0 = atStart m c := invAt_zero m c
theorem inv_end (c : Dev nD) : (dat m c).Φ Gen.t0_0.succ = atEnd m c := invAt_one m c
theorem inv_last (c : Dev nD) : (pdats m 0 c).Φ (Fin.last _) = atEnd m c := by
  show invAt m c cfg0.N = atEnd m c
  rw [show cfg0.N = 1 from Gen.N_0]; exact invAt_one m c

/-- What the core owes, as the region's loop holds it. -/
theorem owesAt_intro (c : Dev nD) (t : Fin (cfg0.N + 1)) (O : CellTallies nD τ sig ℕ) (h : (dat m c).owed t = O) :
    owing c O ⊢ ((dat m c).owesAt 0 t : sProp 𝕄) := by
  unfold owing Dat.owesAt Pipeline.owesWithin Dat.bound
  rw [h]
  iintro ⟨%W, HO⟩
  iexists W
  isplitr
  · ipureintro; exact fun _ _ => Or.inl trivial
  iexact HO
theorem owesAt_elim (c : Dev nD) (t : Fin (cfg0.N + 1)) (O : CellTallies nD τ sig ℕ) (h : (dat m c).owed t = O) :
    ((dat m c).owesAt 0 t : sProp 𝕄) ⊢ owing c O := by
  unfold owing Dat.owesAt Pipeline.owesWithin
  rw [h]
  iintro ⟨%W, -, HO⟩
  iexists W
  iexact HO

/-- The staging buffer holds the weights when the body runs, and keeps them. -/
theorem window_before (c : Dev nD) (d) : (dat m c).before 0 Gen.t0_0 d = (inp m).W c := by
  have h : (dat m c).before 0 Gen.t0_0 d = Gen.iblk m c 0 Gen.t0_0 :=
    ((dat m c).before_in_eq_fetched 0 rfl (fun _ => rfl) (fun _ _ _ => rfl) (fun t => rfl) Gen.t0_0 d).trans rfl
  exact h.trans (block_whole c _)
theorem window_after (c : Dev nD) : (dat m c).after 0 Gen.t0_0 = (inp m).W c :=
  (show (dat m c).after 0 Gen.t0_0 = Gen.iblk m c 0 Gen.t0_0 from rfl).trans (block_whole c _)

/-- The body's run. -/
theorem body_run (c : Dev nD) : BodyObligation (dat m c) defs₀ 𝒱₀ 0 Set.univ := fun t => by
  obtain rfl := Gen.fin_N0 t
  rw [Gen.bigSep_W0, Gen.bigSep_W0, inv_start, inv_end]
  have hb : (defs₀ (F := F) .tc cfg0.body (cfg0.bodyArgs Gen.t0_0 (cfg0.slots Gen.t0_0))) = bodyS (Memref.whole cc0_stg0_0) :=
    body_eq _ (Memref.isWhole_whole _)
  rw [hb]
  have hst (X : S2048x4096.Idx → Elt F .bf16) : (owns (c : Thread nD τ) ((cfg0.win 0).stage (cfg0.slots Gen.t0_0 0)) fullShare X : sProp 𝕄)
      = pt c cc0_stg0_0 X := owns_whole (c : Thread nD τ) cc0_stg0_0 fullShare X
  dsimp only
  have hpre : iprop(atStart m c ∗ (dat m c).owesAt 0 Gen.t0_0.castSucc
        ∗ ∃ d, owns (c : Thread nD τ) ((cfg0.win 0).stage (cfg0.slots Gen.t0_0 0)) fullShare ((dat m c).before 0 Gen.t0_0 d))
      ⊢ (iprop(∃ K, before (inp m) K c (Gen.V m c main_v3) ∗ ∃ r, prngReg c r) : sProp 𝕄) := by
    unfold atStart entry before
    iintro ⟨⟨⟨⟨%K, HK⟩, Hlev, Hg, Hp, Hl⟩, Hs, Ho, Hv, Hr⟩, HO, ⟨%d, Hw⟩⟩
    iexists K
    isplitr [Hr]
    · isplitl [HK Hlev]
      · isplitl [HK]; · iexact HK
        iexact Hlev
      isplitl [Hg]; · iexact Hg
      isplitl [Hp]; · iexact Hp
      isplitl [Hs]; · iexact Hs
      isplitl [Hl]; · iexact Hl
      isplitl [Ho]; · iexact Ho
      isplitl [Hw]
      · iapply (Entails.of_eq ((congrArg _ (window_before m c d)).trans (hst _))); iexact Hw
      isplitl [Hv]; · iexact Hv
      iapply (owesAt_elim m c _ _ (owed_start m c)); iexact HO
    iexact Hr
  have hpost : iprop(after (inp m) c ∗ ∃ r, prngReg c r)
      ⊢ (iprop(atEnd m c ∗ (dat m c).owesAt 0 Gen.t0_0.succ
        ∗ owns (c : Thread nD τ) ((cfg0.win 0).stage (cfg0.slots Gen.t0_0 0)) fullShare ((dat m c).after 0 Gen.t0_0)) : sProp 𝕄) := by
    unfold atEnd leave after
    iintro ⟨⟨Hb, Hc, Hs, Hl, Ho, Hw, Hv, HO⟩, Hr⟩
    isplitr [HO Hw]
    · isplitl [Hb Hc Hl]
      · isplitl [Hb]; · iexact Hb
        isplitl [Hc]; · iexact Hc
        iexact Hl
      isplitl [Hs]; · iexact Hs
      isplitl [Ho]; · iexact Ho
      isplitl [Hv]; · iexact Hv
      iexact Hr
    isplitl [HO]
    · iapply (owesAt_intro m c _ _ (owed_end m c)); iexact HO
    iapply (Entails.of_eq ((congrArg _ (window_after m c)).trans (hst _)).symm); iexact Hw
  have hrun (K) : iprop(before (inp m) K c (Gen.V m c main_v3) ∗ ∃ r, prngReg c r)
      ⊢ wpB c (bodyS (F := F) (Memref.whole cc0_stg0_0)) fun _ => iprop(atEnd m c ∗ (dat m c).owesAt 0 Gen.t0_0.succ
        ∗ owns (c : Thread nD τ) ((cfg0.win 0).stage (cfg0.slots Gen.t0_0 0)) fullShare ((dat m c).after 0 Gen.t0_0)) :=
    (sep_mono_left (run_body (inp m) K c _)).trans ((wp_frame_r _ _ _).trans (wp_mono _ _ _ fun _ => hpost))
  refine hpre.trans ?_
  iintro ⟨%K, H⟩
  iapply (hrun K)
  iexact H

end Cert.KernelIdeal

end
-- ==== Proof.Enter.lean ====
/-
  Entering and leaving the region: the scoped cells opened, the buffers handed in and out.
-/
module

public import proofs.«01_k».proof.Proof.Region

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The kernel's own semaphores -/

/-- The two of the local copies, then the send and the receive semaphores. -/
abbrev OwnSem : Type := Fin 2 ⊕ (Fin 10 ⊕ Fin 10)

def osem : OwnSem → SemLoc sig
  | .inl k => .dma ⟨1 + k.val, by show 1 + k.val < 23; omega⟩
  | .inr (.inl i) => .dma ⟨3 + i.val, by show 3 + i.val < 23; omega⟩
  | .inr (.inr i) => .dma ⟨13 + i.val, by show 13 + i.val < 23; omega⟩

theorem osem_facts : Pipeline.OwnSemFacts spec0 osem := by decide

theorem osem_send (i : Fin 10) : osem (.inr (.inl i)) = .dma (sendSem i) := congrArg SemLoc.dma (Fin.ext (sendSem_val i).symm)
theorem osem_recv (i : Fin 10) : osem (.inr (.inr i)) = .dma (recvSem i) := congrArg SemLoc.dma (Fin.ext (recvSem_val i).symm)

theorem ownSems_eq (c : Dev nD) : (Pipeline.ownSems0 osem c : sProp 𝕄)
    = iprop(locals c ∗ (bigSep Finset.univ fun i => semVal (sendC c i) 0) ∗ bigSep Finset.univ fun i => semVal (recvC c i) 0) := by
  have h2 : (bigSep Finset.univ fun k : Fin 2 => (semVal ((c : Thread nD τ), osem (.inl k)) 0 : sProp 𝕄)) = locals c :=
    BI.bigSep_fin_two (fun k : Fin 2 => (semVal ((c : Thread nD τ), osem (.inl k)) 0 : sProp 𝕄))
  have hs : (bigSep Finset.univ fun i : Fin 10 => (semVal ((c : Thread nD τ), osem (.inr (.inl i))) 0 : sProp 𝕄))
      = bigSep Finset.univ fun i => semVal (sendC c i) 0 := bigSep_congr fun i _ => by rw [osem_send]
  have hr : (bigSep Finset.univ fun i : Fin 10 => (semVal ((c : Thread nD τ), osem (.inr (.inr i))) 0 : sProp 𝕄))
      = bigSep Finset.univ fun i => semVal (recvC c i) 0 := bigSep_congr fun i _ => by rw [osem_recv]
  unfold Pipeline.ownSems0
  rw [bigSep_univ_sum, bigSep_univ_sum, h2, hs, hr]
  rfl

/-! ## Opening the scoped cells -/

/-- What device `c` holds of piece `i` from launch: the right to open its two cells, and the rest. -/
def dormantPiece (c : Dev nD) (i : Fin 10) : sProp 𝕄 :=
  iprop(dutyTok ER (sendC c i) 0 () ∗ dutyTok ER (recvC (pr c) i) 0 () ∗ cred (tallyAt (recvC c i) 2 (cr i))
    ∗ openTok ER (sendC c i) ∗ openTok ER (recvC c i))

/-- One piece's two cells opened. -/
theorem open_piece (I : Inputs F) (K : GSem nD τ sig → ℕ) (c : Dev nD) (i : Fin 10) :
    iprop(records I K ∗ dormantPiece c i ∗ semVal (sendC c i) 0 ∗ semVal (recvC c i) 0) ⊢ (|={Set.univ}=> piece c i : sProp 𝕄) := by
  unfold dormantPiece piece awaiting
  iintro ⟨#HK, ⟨Ht, Ht', Hc, Ho, Ho'⟩, Hs, Hr⟩
  imod (Rounds.cell_open ER (Rd I) (g := sendC c i) (Set.mem_univ (K (sendC c i)))) $$ [Ho Hs] with ⟨Hat, #Hrs⟩
  · isplitr; · iapply (inv_send I K c i); iexact HK
    isplitl [Ho]; · iexact Ho
    iexact Hs
  imod (Rounds.cell_open ER (Rd I) (g := recvC c i) (Set.mem_univ (K (recvC c i)))) $$ [Ho' Hr] with ⟨Hat', #Hrr⟩
  · isplitr; · iapply (inv_recv I K c i); iexact HK
    isplitl [Ho']; · iexact Ho'
    iexact Hr
  imodintro
  isplitl [Ht]; · iexact Ht
  isplitr; · iexact Hrs
  isplitl [Ht']; · iexact Ht'
  isplitl [Hat]; · iexact Hat
  isplitl [Hc Hat']
  · isplitl [Hc]; · iexact Hc
    iexact Hat'
  iexact Hrr

/-- What device `c` holds of the protocol from launch. -/
def kept0 (c : Dev nD) : sProp 𝕄 :=
  iprop((∃ K, records (inp m) K) ∗ gate c ∗ bigSep Finset.univ fun i => dormantPiece c i)

/-- The region entered: every scoped cell opened. -/
theorem enter (c : Dev nD) :
    iprop(kept0 m c ∗ Pipeline.ownSems0 osem c ∗ levAts L lv) ⊢ (|={Set.univ}=> entry m c : sProp 𝕄) := by
  rw [ownSems_eq]
  unfold kept0 entry
  iintro ⟨⟨⟨%K, #HK⟩, Hg, Hp⟩, ⟨Hl, Hs, Hr⟩, #Hlev⟩
  ihave H := (pairs_join Finset.univ (fun i : Fin 10 => semVal (sendC c i) 0) fun i => semVal (recvC c i) 0) $$ [Hs Hr]
  · isplitl [Hs]; · iexact Hs
    iexact Hr
  ihave H := (pairs_join Finset.univ (fun i : Fin 10 => dormantPiece c i) _) $$ [Hp H]
  · isplitl [Hp]; · iexact Hp
    iexact H
  have all : iprop(records (inp m) K ∗ bigSep Finset.univ fun i : Fin 10 => iprop(dormantPiece c i ∗ semVal (sendC c i) 0 ∗ semVal (recvC c i) 0))
      ⊢ (|={Set.univ}=> bigSep Finset.univ fun i => piece c i : sProp 𝕄) :=
    (bigSep_with_persistent fun i _ => open_piece (inp m) K c i).trans (bigSep_fupd _ _)
  imod all $$ [H] with Hp
  · isplitr; · iexact HK
    iexact H
  imodintro
  isplitr
  · iexists K; iexact HK
  isplitr; · iexact Hlev
  isplitl [Hg]; · iexact Hg
  isplitl [Hp]; · iexact Hp
  iexact Hl

/-! ## The buffers -/

/-- The buffers outside the kernel. -/
def bufs : Finset (DevRef τ sig) := (StableHlo.tcRefs τ sig).filter fun b => ¬ b.isScoped
/-- Those no window stages. -/
def rests : Finset (DevRef τ sig) := {Proc.devRef .tc main_arg0, Proc.devRef .tc main_arg1, Proc.devRef .tc main_v2, Proc.devRef .tc main_v3}
/-- Those the kernel addresses itself. -/
def direct : Finset (DevRef τ sig) := {Proc.devRef .tc main_v2, Proc.devRef .tc main_v3}

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem direct_eq (c : Dev nD) (W : Valuation τ sig (Elt F)) : (StableHlo.held (c : Thread nD τ) direct W : sProp 𝕄)
    = iprop(pt c main_v2 (W main_v2) ∗ pt c main_v3 (W main_v3)) := by
  unfold StableHlo.held
  rw [bigSep_eq_bigSepL_of_eq [Proc.devRef .tc main_v2, Proc.devRef .tc main_v3] (by decide) (by decide)]
  rfl

theorem bufs_split (c : Dev nD) (W : Valuation τ sig (Elt F)) : (StableHlo.held (c : Thread nD τ) bufs W : sProp 𝕄)
    = iprop(StableHlo.held (c : Thread nD τ) (Pipeline.arrRefs (τ := τ) (pcfgs (F := F) 0).spec) W ∗ StableHlo.held (c : Thread nD τ) rests W) := by
  have h1 : Pipeline.arrRefs (τ := τ) (pcfgs (F := F) 0).spec = {Proc.devRef .tc main_v1} := (by decide : Pipeline.arrRefs (τ := τ) spec0 = {Proc.devRef .tc main_v1})
  have h2 : bufs \ {Proc.devRef .tc main_v1} = rests := by decide
  rw [StableHlo.held_sub_split (c : Thread nD τ) (T := {Proc.devRef .tc main_v1}) (S := bufs) (by decide) W, h2, h1]

theorem rests_eq (c : Dev nD) (W : Valuation τ sig (Elt F)) : (StableHlo.held (c : Thread nD τ) rests W : sProp 𝕄)
    = iprop(pt c main_arg0 (W main_arg0) ∗ pt c main_arg1 (W main_arg1) ∗ pt c main_v2 (W main_v2) ∗ pt c main_v3 (W main_v3)) := by
  unfold StableHlo.held
  rw [bigSep_eq_bigSepL_of_eq [Proc.devRef .tc main_arg0, Proc.devRef .tc main_arg1, Proc.devRef .tc main_v2, Proc.devRef .tc main_v3] (by decide) (by decide)]
  rfl

/-! ## The contents along the program -/

/-- As launched. -/
def V₀ (c : Dev nD) : Valuation τ sig (Elt F) := fun b => m (c, b)
/-- When the region is entered. -/
def V₁ (c : Dev nD) : Valuation τ sig (Elt F) := StableHlo.after Gen.hostOps0 (V₀ m c)
/-- When it is left: the result written. -/
def V₂ (c : Dev nD) : Valuation τ sig (Elt F) := Function.update (V₁ m c) (Proc.devRef .tc main_v3) (Gout (inp m) c)

theorem V₂_out (c : Dev nD) : V₂ m c main_v3 = Gout (inp m) c := Function.update_self _ _ _
theorem V₂_of_ne (c : Dev nD) (b : DevRef τ sig) (h : b ≠ Proc.devRef .tc main_v3) : V₂ m c b = V₁ m c b := Function.update_of_ne h _ _
theorem V₁_eq (c : Dev nD) (b : Ref sig .tc) : V₁ m c b = Gen.V m c b := rfl

/-! ## In and out -/

theorem rest_scoped (c : Dev nD) :
    (Pipeline.scopedRest (Ix := ℕ) (Name := ℕ) (U := UU) (Lvl := ℕ) (Val := Elt F) (Pipeline.pin (pcfgs (F := F)) adm 0).spec c : sProp 𝕄) = spare c :=
  Gen.scopedRest0_eq c

theorem go_in (c : Dev nD) : iprop(Pipeline.scopedRest (Pipeline.pin (pcfgs (F := F)) adm 0).spec c ∗ (∃ r, prngReg c r)
      ∗ StableHlo.held (c.tc : Thread nD τ) direct (V₁ m c) ∗ entry m c) ⊢ (pdats m 0 c).Φ 0 := by
  rw [inv_zero, rest_scoped, direct_eq]
  unfold atStart
  iintro ⟨Hs, Hp, ⟨Ho, Hv⟩, He⟩
  isplitl [He]; · iexact He
  isplitl [Hs]; · iexact Hs
  isplitl [Ho]; · iexact Ho
  isplitl [Hv]; · iexact Hv
  iexact Hp

theorem go_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) direct (V₂ m c) ∗ Pipeline.ownSems0 osem c ∗ semVal (barC c) 0) := by
  rw [inv_last, rest_scoped, direct_eq, ownSems_eq, V₂_out, V₂_of_ne m c _ (by decide), V₁_eq]
  unfold atEnd leave
  iintro ⟨⟨Hb, Hc, Hl⟩, Hs, Ho, Hv, Hp⟩
  ihave Hc := (pairs_split Finset.univ (fun i : Fin 10 => semVal (sendC c i) 0) fun i => semVal (recvC c i) 0) $$ Hc
  icases Hc with ⟨Hc, Hc'⟩
  isplitl [Hs]; · iexact Hs
  isplitl [Hp]; · iexact Hp
  isplitl [Ho Hv]
  · isplitl [Ho]; · iexact Ho
    iexact Hv
  isplitl [Hl Hc Hc']
  · isplitl [Hl]; · iexact Hl
    isplitl [Hc]; · iexact Hc
    iexact Hc'
  iexact Hb

/-! ## The two segments -/

local notation "ℍ" => Pipeline.HostSeg (Name := ℕ) (U := UU) (pcfgs (F := F)) defs₀ 𝒱₀ L lv
local notation "ℝ𝕊" => Pipeline.RegionSeg (pcfgs (F := F)) adm (pdats m) 0 defs₀ 𝒱₀ L lv

/-- What rides beside the buffers up to the region. -/
def riding (c : Dev nD) : sProp 𝕄 := iprop(kept0 m c ∗ (∃ r, prngReg c r) ∗ owing c (Oall c))

theorem hostOps_bufs : ∀ op ∈ (Gen.hostOps0 : List (HloOp τ sig (Elt F))), op.bufs ⊆ bufs := fun op h => by
  simp only [Gen.hostOps0, List.mem_cons, List.not_mem_nil, or_false] at h
  rcases h with rfl | rfl
  · show ({Proc.devRef .tc main_arg1, Proc.devRef .tc main_v1} : Finset (DevRef τ sig)) ⊆ bufs; decide
  · show ({Proc.devRef .tc main_arg0, Proc.devRef .tc main_v2} : Finset (DevRef τ sig)) ⊆ bufs; decide

theorem hostOps_fresh : ∀ op ∈ (Gen.hostOps0 : List (HloOp τ sig (Elt F))), op.fresh = ∅ :=
  List.forall_iff_forall_mem.mp Gen.hostOps0_fresh

/-- The weights rounded and the activations reshaped. -/
def hostSeg : ℍ := Pipeline.HostSeg.ofOps _ _ _ _ _ bufs Gen.hostOps0 hostOps_bufs hostOps_fresh (V₀ m) (riding m)

theorem kitP : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos := Gen.block_pos0
  arr_whole := Gen.arr_whole0
  stage_whole := Gen.stage_whole0

theorem owed_above (c : Dev nD) (t : Fin ((Pipeline.pin (pcfgs (F := F)) adm 0).N + 1)) (g : GSem nD τ sig) (i : ℕ)
    (h : 0 < (pdats m 0 c).owed t g i) : i ∈ L g ∧ (0 : ℕ) < lv g i := by
  have h' : 0 < owedAt c t.val g i := h
  have hA : Above 0 (owedAt c t.val) := by
    unfold owedAt
    split
    · exact above_all c
    · exact Above.zero 0
  obtain ⟨h1, h2, h3⟩ := hA g i h'
  refine ⟨?_, h2⟩
  unfold L
  rw [if_pos h1]
  have : i = 1 ∨ i = 2 ∨ i = 3 := by omega
  rcases this with rfl | rfl | rfl <;> decide

theorem share_full (c : Dev nD) (w) : (pdats m 0 c).share w = fullShare := by
  show (if _ then fullShare else fullShare) = fullShare
  exact ite_self _

theorem arr_end (c : Dev nD) (w) : (pdats m 0 c).arrAt w (Pipeline.pin (pcfgs (F := F)) adm 0).N
    = V₂ m c (Proc.devRef .tc (Pipeline.arrRef (Pipeline.pin (pcfgs (F := F)) adm 0).spec w)) := by
  have hw : w = 0 := Subsingleton.elim (α := Fin 1) w 0
  subst hw
  exact ((dat m c).arrAt_in 0 rfl _).trans (V₂_of_ne m c (Proc.devRef .tc main_v1) (by decide)).symm

theorem rest_kept (c : Dev nD) : ∀ b ∈ rests \ direct, V₂ m c b = V₁ m c b := fun b hb =>
  V₂_of_ne m c b fun h => (Finset.mem_sdiff.mp hb).2 (by rw [h]; decide)

set_option backward.isDefEq.respectTransparency.types false in
/-- The kernel. -/
def regionSeg : ℝ𝕊 0 :=
  Pipeline.RegionSeg.ofTalk (pcfgs (F := F)) adm (pdats m) 0 defs₀ 𝒱₀ L lv 0 osem osem_facts
    direct rests (by decide) kitP rfl (fun c => (body_run m c).loose)
    (fun _ => 0) Oall (fun c => (owed_zero m c).trans (zero_add _).symm) (owed_last m) (fun _ => rfl) (share_full m)
    (V₁ m) (V₂ m) (rest_kept m)
    (kept0 m) (fun c => semVal (barC c) 0) (entry m) (fun c => semVal (barC c) 0) (enter m) (go_in m) (go_out m)
    (fun c => by iintro H; imodintro; iexact H)
    (fun _ => 0)
    ⟨fun c w s => by rw [L_tc]; decide, fun _ _ _ => Nat.le_refl _, fun c t g i h => owed_above m c t g i h⟩
    (fun _ => iprop(emp))
    (fun _ w => by have hw : w = 0 := Subsingleton.elim (α := Fin 1) w 0
                   subst hw; rfl) (arr_end m)

/-- From the host operations into the kernel. -/
theorem into_region (c : Dev nD) : iprop(StableHlo.held (c : Thread nD τ) bufs (V₁ m c) ∗ riding m c) ⊢ (regionSeg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) rests (V₁ m c) ∗ emp) ∗ kept0 m c ∗ ∃ Wd, owes (c : Thread nD τ) (0 + Oall c) Wd)
  rw [bufs_split, zero_add]
  unfold riding owing
  iintro ⟨⟨Ha, Hr⟩, Hk, Hp, HO⟩
  isplitl [Ha]; · iexact Ha
  isplitl [Hp]; · iexact Hp
  isplitl [Hr]
  · isplitl [Hr]; · iexact Hr
    iempintro
  isplitl [Hk]; · iexact Hk
  iexact HO

/-- Out of the kernel. -/
theorem from_region (c : Dev nD) : (regionSeg m).post c
    ⊢ iprop((StableHlo.held (c : Thread nD τ) rests (V₂ m c) ∗ semVal (barC c) 0)
      ∗ ∃ W, owes (c : Thread nD τ) (0 : CellTallies nD τ sig ℕ) W) := by
  show iprop(StableHlo.held (c.tc : Thread nD τ) (Pipeline.arrRefs (τ := τ) (pcfgs (F := F) 0).spec) (V₂ m c) ∗ (∃ r, prngReg c r)
    ∗ (StableHlo.held (c.tc : Thread nD τ) rests (V₂ m c) ∗ emp) ∗ semVal (barC c) 0 ∗ ∃ Wd, owes (c : Thread nD τ) (0 : CellTallies nD τ sig ℕ) Wd) ⊢ _
  iintro ⟨-, -, ⟨Hh, -⟩, Hb, HO⟩
  isplitr [HO]
  · isplitl [Hh]; · iexact Hh
    iexact Hb
  iexact HO

/-- The program as its two segments. -/
def segs : List (Pipeline.Seg (pcfgs (F := F)) adm (pdats m) 0 defs₀ 𝒱₀ L lv) := [.host (hostSeg m), .region (regionSeg m)]

theorem main_eq (c : Dev nD) : main (F := F) c = Pipeline.Seg.run (segs m) :=
  Gen.main_segs adm (pdats m) 0 𝒱₀ L lv (hostSeg m) (regionSeg m) rfl c

end Cert.KernelIdeal

end
-- ==== Proof.Launched.lean ====
/-
  The launch: the protocol's ghost state dealt to the devices, and the run of the whole program.
-/
module

public import proofs.«01_k».proof.Proof.Enter
public import Idealize.ShloMosaic.Adequacy
public import Idealize.ShloMosaic.Init

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)

/-! ## The tokens -/

/-- A device's duties by what they are for: two at its barrier, one at each send and each receive cell. -/
abbrev Duty : Type := Fin 2 ⊕ (Fin 10 ⊕ Fin 10)

def dutySem : Duty → SemLoc sig
  | .inl _ => .reg barS
  | .inr (.inl i) => .dma (sendSem i)
  | .inr (.inr i) => .dma (recvSem i)

def dutyRound : Duty → ℕ
  | .inl k => k.val
  | .inr _ => 0

theorem duty_inj {a b : Duty} (hs : dutySem a = dutySem b) (hr : dutyRound a = dutyRound b) : a = b := by
  have h : role (dutySem a) = role (dutySem b) := congrArg role hs
  rcases a with k | i | i <;> rcases b with l | j | j <;> simp only [dutySem, role_send, role_recv] at h
  · exact congrArg Sum.inl (Fin.ext hr)
  · cases h
  · cases h
  · cases h
  · cases h; rfl
  · cases h
  · cases h
  · cases h
  · cases h; rfl

/-- Every duty's token. -/
def talkToks : Finset (GSem nD τ sig × ℕ × Unit) :=
  Finset.univ.map ⟨fun p : Dev nD × Duty => (((p.1 : Thread nD τ), dutySem p.2), dutyRound p.2, ()), fun _ _ h =>
    Prod.ext (congrArg (fun t : GSem nD τ sig × ℕ × Unit => t.1.1.1) h)
      (duty_inj (congrArg (fun t : GSem nD τ sig × ℕ × Unit => t.1.2) h) (congrArg (fun t : GSem nD τ sig × ℕ × Unit => t.2.1) h))⟩

/-- The tokens of the duties device `c` pays. -/
def paid (c : Dev nD) : sProp 𝕄 :=
  iprop((dutyTok ER (barC (pr c)) 0 () ∗ dutyTok ER (barC (pr c)) 1 ())
    ∗ (bigSep Finset.univ fun i : Fin 10 => dutyTok ER (sendC c i) 0 ()) ∗ bigSep Finset.univ fun i : Fin 10 => dutyTok ER (recvC (pr c) i) 0 ())

/-- Three families, the first and the last handed to the other of the pair. -/
theorem swapped (A B C : Dev nD → sProp 𝕄) : (bigSep Finset.univ fun c => iprop(A c ∗ B c ∗ C c)) = bigSep Finset.univ fun c => iprop(A (pr c) ∗ B c ∗ C (pr c)) := by
  rw [bigSep_sep' Finset.univ A, bigSep_sep' Finset.univ B, bigSep_sep' Finset.univ (fun c => A (pr c)), bigSep_sep' Finset.univ B,
    bigSep_univ_equiv swap A, bigSep_univ_equiv swap C]
  rfl

/-- The tokens dealt: those of the barriers and the receive cells go to the other of the pair. -/
theorem toks_dealt : bigSep talkToks (fun x => (dutyTok ER x.1 x.2.1 x.2.2 : sProp 𝕄)) = bigSep Finset.univ fun c : Dev nD => paid c := by
  have hdev (c : Dev nD) : (bigSep Finset.univ fun d : Duty => (dutyTok ER ((c : Thread nD τ), dutySem d) (dutyRound d) () : sProp 𝕄))
      = iprop((dutyTok ER (barC c) 0 () ∗ dutyTok ER (barC c) 1 ())
        ∗ (bigSep Finset.univ fun i : Fin 10 => dutyTok ER (sendC c i) 0 ()) ∗ bigSep Finset.univ fun i : Fin 10 => dutyTok ER (recvC c i) 0 ()) := by
    have h2 : (bigSep Finset.univ fun k : Fin 2 => (dutyTok ER ((c : Thread nD τ), dutySem (.inl k)) (dutyRound (.inl k)) () : sProp 𝕄))
        = iprop(dutyTok ER (barC c) 0 () ∗ dutyTok ER (barC c) 1 ()) :=
      BI.bigSep_fin_two (fun k : Fin 2 => (dutyTok ER ((c : Thread nD τ), dutySem (.inl k)) (dutyRound (.inl k)) () : sProp 𝕄))
    rw [bigSep_univ_sum, bigSep_univ_sum, h2]
    rfl
  have hall : bigSep talkToks (fun x => (dutyTok ER x.1 x.2.1 x.2.2 : sProp 𝕄))
      = bigSep Finset.univ fun c : Dev nD => bigSep Finset.univ fun d : Duty => (dutyTok ER ((c : Thread nD τ), dutySem d) (dutyRound d) () : sProp 𝕄) := by
    unfold talkToks
    rw [bigSep_map, bigSep_univ_prod]
    rfl
  rw [hall, bigSep_congr fun c _ => hdev c]
  exact swapped _ _ _

/-! ## The cells -/

theorem barC_inj : Function.Injective barC := fun _ _ h => congrArg (fun g : GSem nD τ sig => g.1.1) h

theorem sendC_inj : Set.InjOn (fun p : Dev nD × Fin 10 => sendC p.1 p.2) (Finset.univ : Finset (Dev nD × Fin 10)) := fun a _ b _ h => by
  have h1 : a.1 = b.1 := congrArg (fun g : GSem nD τ sig => g.1.1) h
  have h2 : role (.dma (sendSem a.2)) = role (.dma (sendSem b.2)) := congrArg (fun g : GSem nD τ sig => role g.2) h
  rw [role_send, role_send] at h2
  exact Prod.ext h1 (Role.send.inj h2)

theorem recvC_inj : Set.InjOn (fun p : Dev nD × Fin 10 => recvC p.1 p.2) (Finset.univ : Finset (Dev nD × Fin 10)) := fun a _ b _ h => by
  have h1 : a.1 = b.1 := congrArg (fun g : GSem nD τ sig => g.1.1) h
  have h2 : role (.dma (recvSem a.2)) = role (.dma (recvSem b.2)) := congrArg (fun g : GSem nD τ sig => role g.2) h
  rw [role_recv, role_recv] at h2
  exact Prod.ext h1 (Role.recv.inj h2)

theorem disjoint_cells : Disjoint barCells scCells := by
  rw [Finset.disjoint_left]
  rintro g h₁ h₂
  obtain ⟨c, -, rfl⟩ := Finset.mem_image.mp h₁
  rcases Finset.mem_union.mp h₂ with h | h
  · obtain ⟨p, -, h⟩ := Finset.mem_image.mp h
    have : role (.dma (sendSem p.2)) = .bar := congrArg (fun g : GSem nD τ sig => role g.2) h
    rw [role_send] at this; cases this
  · obtain ⟨p, -, h⟩ := Finset.mem_image.mp h
    have : role (.dma (recvSem p.2)) = .bar := congrArg (fun g : GSem nD τ sig => role g.2) h
    rw [role_recv] at this; cases this

theorem disjoint_sc : Disjoint (Finset.univ.image fun p : Dev nD × Fin 10 => sendC p.1 p.2) (Finset.univ.image fun p : Dev nD × Fin 10 => recvC p.1 p.2) := by
  rw [Finset.disjoint_left]
  rintro g h₁ h₂
  obtain ⟨p, -, rfl⟩ := Finset.mem_image.mp h₁
  obtain ⟨q, -, h⟩ := Finset.mem_image.mp h₂
  have : role (.dma (recvSem q.2)) = role (.dma (sendSem p.2)) := congrArg (fun g : GSem nD τ sig => role g.2) h
  rw [role_recv, role_send] at this; cases this

theorem bar_dealt (Φ : GSem nD τ sig → sProp 𝕄) : bigSep barCells Φ = bigSep Finset.univ fun c : Dev nD => Φ (barC c) :=
  bigSep_image_of_injOn barC_inj.injOn Φ

theorem sc_dealt (Φ : GSem nD τ sig → sProp 𝕄) : bigSep scCells Φ
    = bigSep Finset.univ fun c : Dev nD => iprop((bigSep Finset.univ fun i : Fin 10 => Φ (sendC c i)) ∗ bigSep Finset.univ fun i : Fin 10 => Φ (recvC c i)) := by
  unfold scCells
  rw [BI.bigSep_union disjoint_sc, bigSep_image_of_injOn sendC_inj, bigSep_image_of_injOn recvC_inj, bigSep_univ_prod, bigSep_univ_prod]
  exact (bigSep_sep' _ _ _).symm

/-! ## The credit each device starts with -/

/-- The credit for the last `n` of the ten pieces, beside that for the closing signal. -/
def creditLeft (c : Dev nD) : ℕ → sProp 𝕄
  | 0 => cred (tallyAt (barC c) 3 1)
  | n + 1 => if h : n < 10 then iprop(creditLeft c n ∗ cred (tallyAt (recvC c ⟨9 - n, by omega⟩) 2 (cr ⟨9 - n, by omega⟩))) else creditLeft c n

theorem credits_left (n : ℕ) (c : Dev nD) : (Pipeline.launchCred (fun d => Oleft d n) c : sProp 𝕄) ⊢ creditLeft c n := by
  induction n with
  | zero => exact Pipeline.launchCred_tallyAt (.reg barS) pr pr pr_pr pr_pr 3 1 c
  | succ n ih =>
    unfold creditLeft
    by_cases h : n < 10
    · have e : (fun d : Dev nD => Oleft d (n + 1)) = fun d => Oleft d n + tallyAt (recvC (pr d) ⟨9 - n, by omega⟩) 2 (cr ⟨9 - n, by omega⟩) :=
        funext fun d => left_step d ⟨9 - n, by omega⟩ n (by show n + (9 - n) = 9; omega)
      rw [e, Pipeline.launchCred_add, dif_pos h]
      exact BI.sep_mono ih (Pipeline.launchCred_tallyAt (.dma (recvSem ⟨9 - n, by omega⟩)) pr pr pr_pr pr_pr 2 (cr ⟨9 - n, by omega⟩) c)
    · have e : (fun d : Dev nD => Oleft d (n + 1)) = fun d => Oleft d n := funext fun d => by
        show (if h : n < 10 then _ else _) = _
        rw [dif_neg h]
      rw [e, dif_neg h]
      exact ih

theorem creditLeft_all (c : Dev nD) : (creditLeft c 10 : sProp 𝕄)
    ⊢ iprop(cred (tallyAt (barC c) 3 1) ∗ bigSep Finset.univ fun i : Fin 10 => cred (tallyAt (recvC c i) 2 (cr i))) := by
  rw [ten]
  show iprop((((((((((cred (tallyAt (barC c) 3 1) ∗ cred (tallyAt (recvC c 9) 2 (cr 9))) ∗ cred (tallyAt (recvC c 8) 2 (cr 8)))
    ∗ cred (tallyAt (recvC c 7) 2 (cr 7))) ∗ cred (tallyAt (recvC c 6) 2 (cr 6))) ∗ cred (tallyAt (recvC c 5) 2 (cr 5)))
    ∗ cred (tallyAt (recvC c 4) 2 (cr 4))) ∗ cred (tallyAt (recvC c 3) 2 (cr 3))) ∗ cred (tallyAt (recvC c 2) 2 (cr 2)))
    ∗ cred (tallyAt (recvC c 1) 2 (cr 1))) ∗ cred (tallyAt (recvC c 0) 2 (cr 0))) ⊢ _
  iintro ⟨⟨⟨⟨⟨⟨⟨⟨⟨⟨Hb, H9⟩, H8⟩, H7⟩, H6⟩, H5⟩, H4⟩, H3⟩, H2⟩, H1⟩, H0⟩
  isplitl [Hb]; · iexact Hb
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem credits (c : Dev nD) : (Pipeline.launchCred Oall c : sProp 𝕄)
    ⊢ iprop((cred (tallyAt (barC c) 1 1) ∗ cred (tallyAt (barC c) 3 1)) ∗ bigSep Finset.univ fun i : Fin 10 => cred (tallyAt (recvC c i) 2 (cr i))) := by
  have e : Oall = fun d => Oleft d 10 + tallyAt (barC (pr d)) 1 1 := rfl
  rw [e, Pipeline.launchCred_add]
  iintro ⟨Hl, Hb⟩
  ihave Hl := ((credits_left 10 c).trans (creditLeft_all c)) $$ Hl
  ihave Hb := (Pipeline.launchCred_tallyAt (.reg barS) pr pr pr_pr pr_pr 1 1 c) $$ Hb
  icases Hl with ⟨Hc, Hr⟩
  isplitr [Hr]
  · isplitl [Hb]; · iexact Hb
    iexact Hc
  iexact Hr

/-! ## Every device's start -/

/-- What the launch deals device `c` of the protocol. -/
def linear (c : Dev nD) : sProp 𝕄 :=
  iprop(atPos ER (barC c) 0 ∅ 0
    ∗ ((bigSep Finset.univ fun i : Fin 10 => openTok ER (sendC c i)) ∗ bigSep Finset.univ fun i : Fin 10 => openTok ER (recvC c i)) ∗ paid c)

/-- What it holds besides. -/
def bundle (c : Dev nD) : sProp 𝕄 :=
  iprop(StableHlo.held (c : Thread nD τ) bufs (V₀ m c)
    ∗ ((cred (tallyAt (barC c) 1 1) ∗ cred (tallyAt (barC c) 3 1)) ∗ bigSep Finset.univ fun i : Fin 10 => cred (tallyAt (recvC c i) 2 (cr i)))
    ∗ owes (c : Thread nD τ) (Oall c) ∅ ∗ ∃ r, prngReg c r)

/-- What everyone may consult. -/
def known (K : GSem nD τ sig → ℕ) : sProp 𝕄 := iprop(records (inp m) K ∗ bigSep barCells fun g => reached ER g 0)

instance known_persistent (K : GSem nD τ sig → ℕ) : BI.Persistent (known m K) := by unfold known; infer_instance

abbrev T₀ (c : Dev nD) : sProp 𝕄 := iprop(StableHlo.held (c : Thread nD τ) bufs (V₀ m c) ∗ riding m c)
abbrev Tₙ (c : Dev nD) : sProp 𝕄 := iprop(StableHlo.held (c : Thread nD τ) rests (V₂ m c) ∗ semVal (barC c) 0)

theorem reached_bar (c : Dev nD) : (bigSep barCells fun g => (reached ER g 0 : sProp 𝕄)) ⊢ reached ER (barC c) 0 :=
  BI.bigSep_elim (Finset.mem_image_of_mem barC (Finset.mem_univ c))

theorem start_of (K : GSem nD τ sig → ℕ) (c : Dev nD) : iprop(known m K ∗ (linear c ∗ bundle m c)) ⊢ T₀ m c := by
  unfold known linear bundle paid T₀ riding kept0 gate owing
  iintro ⟨⟨#HK, #HR⟩, ⟨Hat, ⟨Hos, Hor⟩, ⟨Ht0, Ht1⟩, Hts, Htr⟩, Hh, ⟨⟨Hc1, Hc3⟩, Hcr⟩, HO, Hp⟩
  isplitl [Hh]; · iexact Hh
  isplitr [Hp HO]
  · isplitr
    · iexists K; iexact HK
    isplitr [Hos Hor Hts Htr Hcr]
    · isplitl [Ht0]; · iexact Ht0
      isplitl [Ht1]; · iexact Ht1
      isplitr
      · iapply (reached_bar (F := F) (pr c)); iexact HR
      isplitl [Hc1]; · iexact Hc1
      isplitl [Hc3]; · iexact Hc3
      iexact Hat
    · unfold dormantPiece
      iapply (pairs_join Finset.univ (fun i : Fin 10 => dutyTok ER (sendC c i) 0 ()) _); isplitl [Hts]; · iexact Hts
      iapply (pairs_join Finset.univ (fun i : Fin 10 => dutyTok ER (recvC (pr c) i) 0 ()) _); isplitl [Htr]; · iexact Htr
      iapply (pairs_join Finset.univ (fun i : Fin 10 => cred (tallyAt (recvC c i) 2 (cr i))) _); isplitl [Hcr]; · iexact Hcr
      iapply (pairs_join Finset.univ (fun i : Fin 10 => openTok ER (sendC c i)) _); isplitl [Hos]; · iexact Hos
      iexact Hor
  isplitl [Hp]; · iexact Hp
  iexists ∅; iexact HO

/-- The launch element of the resource algebra. -/
def u₀ : UU :=
  (initOf (Pipeline.cells (Pipeline.pin (pcfgs (F := F)) adm) Gen.cellOf_inj) (Pipeline.launchToks (Pipeline.pin (pcfgs (F := F)) adm) Gen.cellOf_inj),
    (launchOf barCells scCells talkToks, 1))

/-- The protocol's launch element, kept whole on device 0 until every device's share is dealt. -/
def parked (c : Dev nD) : sProp 𝕄 := if c = 0 then BI.own (ER (launchOf barCells scCells talkToks)) else iprop(emp)

theorem parked_all : (bigSep Finset.univ fun c => parked c) = (BI.own (ER (launchOf barCells scCells talkToks)) : sProp 𝕄) := by
  rw [bigSep_univ_at _ 0, bigSep_congr (s := Finset.univ.erase 0) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

theorem unscopedSems_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- What the launch gives a device. -/
def dealt (c : Dev nD) : sProp 𝕄 :=
  iprop(unscopedBufs c (fun b => m ((c : Thread nD τ).loc b)) ∗ unscopedSems0 c
    ∗ owes (c : Thread nD τ) (Oall c) ∅ ∗ Pipeline.launchCred Oall c ∗ prngReg c (ρ c) ∗ parked c)

theorem dealt_sorted (c : Dev nD) : dealt m ρ c ⊢ (iprop(bundle m c ∗ (semVal (barC c) 0 ∗ parked c)) : sProp 𝕄) := by
  unfold dealt
  rw [show unscopedBufs c (fun b => m ((c : Thread nD τ).loc b)) = StableHlo.held (c : Thread nD τ) bufs (V₀ m c) from unscopedBufs_held c (V₀ m c),
    unscopedSems_eq]
  unfold bundle
  iintro ⟨Hh, Hus, HO, Hcr, Hp, HG⟩
  ihave Hc := (credits c) $$ Hcr
  isplitr [Hus HG]
  · isplitl [Hh]; · iexact Hh
    isplitl [Hc]; · iexact Hc
    isplitl [HO]; · iexact HO
    iexists (ρ c); iexact Hp
  isplitl [Hus]; · iexact Hus
  iexact HG

theorem linear_all : iprop((bigSep barCells fun g => atPos ER g 0 ∅ 0) ∗ (bigSep scCells fun g => openTok ER g)
      ∗ bigSep talkToks fun x => dutyTok ER x.1 x.2.1 x.2.2) ⊢ (bigSep Finset.univ fun c => linear c : sProp 𝕄) := by
  rw [bar_dealt, sc_dealt, toks_dealt]
  unfold linear
  rw [bigSep_sep' Finset.univ (fun c : Dev nD => (atPos ER (barC c) 0 ∅ 0 : sProp 𝕄)),
    bigSep_sep' Finset.univ (fun c : Dev nD => (iprop((bigSep Finset.univ fun i : Fin 10 => openTok ER (sendC c i)) ∗ bigSep Finset.univ fun i : Fin 10 => openTok ER (recvC c i)) : sProp 𝕄))]

theorem init : iprop((bigSep Finset.univ fun c : Dev nD => dealt m ρ c) ∗ levAts L lv) ⊢ (|={Set.univ}=> bigSep Finset.univ (T₀ m) : sProp 𝕄) := by
  have hsort : (bigSep Finset.univ fun c : Dev nD => dealt m ρ c)
      ⊢ (bigSep Finset.univ fun c : Dev nD => iprop(bundle m c ∗ (semVal (barC c) 0 ∗ parked c)) : sProp 𝕄) := bigSep_mono fun c _ => dealt_sorted m ρ c
  iintro ⟨H, -⟩
  ihave H := (hsort.trans (pairs_split _ _ _)) $$ H
  icases H with ⟨HB, H⟩
  ihave H := (pairs_split Finset.univ (fun c : Dev nD => (semVal (barC c) 0 : sProp 𝕄)) _) $$ H
  icases H with ⟨Hv, HG⟩
  ihave Hu := (Entails.of_eq (parked_all (F := F))) $$ HG
  imod (Rounds.fund_launch ER (Rd (inp m)) disjoint_cells (fun g _ h => h) talkToks) $$ [Hv Hu] with ⟨%K, -, #Hinv, #Hr, Hat, Hopen, Htok⟩
  · isplitl [Hv]
    · iapply (Entails.of_eq (bar_dealt fun g => semVal g 0).symm) $$ Hv
    · iexact Hu
  imodintro
  iapply (bigSep_with_persistent (R := known m K) (Φ := fun c => iprop(linear c ∗ bundle m c)) fun c _ => start_of m K c)
  isplitr
  · unfold known records
    isplitr; · iexact Hinv
    iexact Hr
  iapply (pairs_join Finset.univ (fun c : Dev nD => (linear c : sProp 𝕄)) _)
  isplitr [HB]
  · iapply (linear_all (F := F))
    isplitl [Hat]; · iexact Hat
    isplitl [Hopen]; · iexact Hopen
    iexact Htok
  · iexact HB

theorem launch_split : (ownU (u₀ (F := F)) : sProp 𝕄)
    ⊢ |={Set.univ}=> iprop(BI.own (EP (initOf (Pipeline.cells (Pipeline.pin (pcfgs (F := F)) adm) Gen.cellOf_inj) (Pipeline.launchToks (Pipeline.pin (pcfgs (F := F)) adm) Gen.cellOf_inj)))
      ∗ bigSep Finset.univ fun c => parked c) := by
  rw [parked_all]
  unfold u₀
  iintro Hu
  ihave H := (ownU_pair _ _) $$ Hu
  icases H with ⟨HP, HX⟩
  imodintro
  isplitl [HP]; · iexact HP
  iexact HX

theorem unscoped_eq : ∀ sm : SemLoc sig, sm.isScoped .tc = false → sm = .reg barS := by decide

/-! ## The run -/

set_option backward.isDefEq.respectTransparency.types false in
/-- From any memory, every fair execution of the program on the eight devices ends; then the arguments are unchanged, every device's
    result is `Gout`, and every semaphore is at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v3) = Gout (inp m) c) ∧ r.2.sem = fun _ => 0) :=
  Pipeline.θ_run_regions_kit_sems (pcfgs (F := F)) adm (pdats m) 0 Gen.cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := Oall) (hL := L_of_ne) (G := fun c => parked c) (u₀ := u₀) (hu₀ := launch_split)
    (T₀ := T₀ m) (Tₙ := Tₙ m)
    (hch := ⟨fun c => .rfl, fun c => into_region m c, fun c => from_region m c⟩)
    (hinit := init m ρ)
    (QY := fun c s => (s.mem ((c : Thread nD τ).loc main_arg0) = V₂ m c main_arg0 ∧ s.mem ((c : Thread nD τ).loc main_arg1) = V₂ m c main_arg1
        ∧ s.mem ((c : Thread nD τ).loc main_v3) = V₂ m c main_v3) ∧ s.sem (barC c) = 0)
    (hfin := fun c s' => by
      dsimp only [Tₙ]; rw [rests_eq]; unfold pt
      iintro ⟨⟨⟨H0, H1, -, H3⟩, Hb0⟩, HSI⟩
      icombine HSI H0 gives %h0
      icombine HSI H1 gives %h1
      icombine HSI H3 gives %h3
      icombine HSI Hb0 gives %hb
      imodintro
      isplitr
      · ipureintro
        exact ⟨⟨Buf.eq_of_forall_mem_univ h0, Buf.eq_of_forall_mem_univ h1, Buf.eq_of_forall_mem_univ h3⟩, by simpa using hb⟩
      iexact HSI)
    (hQ := fun s h hs => ⟨fun c => by
        obtain ⟨⟨h0, h1, h3⟩, -⟩ := h c
        rw [V₂_of_ne m c _ (by decide), V₁_eq, Gen.V_main_arg0] at h0
        rw [V₂_of_ne m c _ (by decide), V₁_eq, Gen.V_main_arg1] at h1
        rw [V₂_out] at h3
        exact ⟨h0, h1, h3⟩,
      sem_eq_zero hs fun c sm hsm => by
        obtain rfl := unscoped_eq sm hsm
        exact (h c).2⟩)

end Cert.KernelIdeal

end
-- ==== Proof.Values.lean ====
/-
  The result over the extended reals: at every index the sum of two partial products, one over each half of the heads.
-/
module

public import proofs.«01_k».proof.Proof.Region
public import Idealize.ShloMosaic.Lib.ValueIdxCore
public import Idealize.ShloMosaic.PureOps.Ideal.Laws

@[expose] public section

noncomputable section

namespace Cert.KernelIdeal

open Idealize.ShloMosaic
open Idealize.ShloMosaic.TcCoe Idealize.ShloMosaic.ValueIdx

/-! ## A chunk's product -/

/-- Element `k` of row `r` of block `b`: the heads one after the other. -/
def rowAt (O : FVec Ideal S8x512x16x128 .f32) (b : Fin 8) (r : Fin 512) (k : Fin 2048) : EReal :=
  O (ix4 (d := ![8, 512, 16, 128]) b r ⟨k.val / 128, by have := k.isLt; show _ < 16; omega⟩ ⟨k.val % 128, Nat.mod_lt _ (by decide)⟩)

/-- A row of a block times a column of the weights. -/
def dotAt (O : FVec Ideal S8x512x16x128 .f32) (W : FVec Ideal S2048x4096 .bf16) (b : Fin 8) (r : Fin 512) (n : Fin 4096) : EReal :=
  ∑ k : Fin 2048, rowAt O b r k * (W (Shape.pair (d := ![2048, 4096]) k n) : EReal)

theorem prod_at (nr : ℕ) [hn : Rows nr] (q : Src nr) (O : FVec Ideal S8x512x16x128 .f32) (W : FVec Ideal S2048x4096 .bf16)
    (x : (⟨2, ![nr, 4096]⟩ : Shape).Idx) :
    prod nr q O W x = dotAt O W q.b ⟨q.r0 + (x 0).val, by have h : (x 0).val < nr := (x 0).isLt; have := q.inb; omega⟩ (x 1) := by
  show FloatOps.matmul (dotRows nr) none (castRowsBf nr (chunk nr q O)) (shapeCast S2048x4096 W _) (constant ⟨2, ![nr, 4096]⟩ .f32 0x00000000#32) x = _
  rw [Ideal.matmul_constant_zero_apply, ← Equiv.sum_comp (contrEquiv1 (dotRows nr) 2048 rfl rfl).symm]
  unfold dotAt
  refine Finset.sum_congr rfl fun k _ => ?_
  have hk := contrEquiv1_symm_val (dotRows nr) 2048 rfl rfl k
  have hl : (dotRows nr).lhsIdx x ((contrEquiv1 (dotRows nr) 2048 rfl rfl).symm k) = Shape.pair (d := ![nr, 2048]) (x 0) k :=
    idx2_ext (by simp [DotDims.lhsIdx, dotRows]; rfl) (by simp [DotDims.lhsIdx, dotRows]; exact hk)
  have hr : (dotRows nr).rhsIdx x ((contrEquiv1 (dotRows nr) 2048 rfl rfl).symm k) = Shape.pair (d := ![2048, 4096]) k (x 1) :=
    idx2_ext (by simp [DotDims.rhsIdx, dotRows]; exact hk) (by simp [DotDims.rhsIdx, dotRows]; rfl)
  rw [hl, hr, shapeCast_self]
  unfold castRowsBf
  rw [shapeCast_self]
  rfl

/-! ## The result -/

variable (I : Inputs Ideal)

/-- What device `e` contributes to row `r` of batch `t` of device `c`'s result. -/
def share (c e : Dev nD) (t : Fin 4) (r : Fin 512) (n : Fin 4096) : EReal :=
  dotAt (I.O e) (I.W e) ⟨2 * t.val + yOf c, by have := yOf_lt c; omega⟩ r n

theorem dotAt_congr (O : FVec Ideal S8x512x16x128 .f32) (W : FVec Ideal S2048x4096 .bf16) {b b' : Fin 8} {r r' : Fin 512} {n n' : Fin 4096}
    (hb : b.val = b'.val) (hr : r.val = r'.val) (hn : n.val = n'.val) : dotAt O W b r n = dotAt O W b' r' n' := by
  rw [Fin.ext hb, Fin.ext hr, Fin.ext hn]

/-- The rows received are the peer's products. -/
theorem recv_at (c : Dev nD) (ch : Fin 8) (x : S256x4096.Idx) :
    Grecv I c (ix3 (d := ![8, 256, 4096]) ch (x 0) (x 1))
      = dotAt (I.O (pr c)) (I.W (pr c)) ⟨2 * (ch.val / 2) + yOf c, by have := yOf_lt c; omega⟩
          ⟨256 * (ch.val % 2) + (x 0).val, by have h : (x 0).val < 256 := (x 0).isLt; omega⟩ (x 1) := by
  have hx : (x 0).val < 256 := (x 0).isLt
  have hy : 1 - yOf (pr c) = yOf c := by have := yOf_lt c; rw [yOf_pr]; omega
  unfold Grecv
  by_cases h : ch.val = 0 ∨ ch.val = 7
  · refine (if_pos h).trans ?_
    refine (prod_at 128 (othH (pr c) ch ⟨(x 0).val / 128, by omega⟩) (I.O (pr c)) (I.W (pr c)) _).trans ?_
    refine dotAt_congr _ _ ?_ ?_ rfl
    · show 2 * (ch.val / 2) + (1 - yOf (pr c)) = _; rw [hy]
    · show 256 * (ch.val % 2) + 128 * ((x 0).val / 128) + (x 0).val % 128 = 256 * (ch.val % 2) + (x 0).val; omega
  · refine (if_neg h).trans ?_
    refine (prod_at 256 (oth (pr c) ch) (I.O (pr c)) (I.W (pr c)) _).trans ?_
    refine dotAt_congr _ _ ?_ rfl rfl
    show 2 * (ch.val / 2) + (1 - yOf (pr c)) = _; rw [hy]

/-- A chunk's rows: the own product and the peer's. -/
theorem acc_at (c : Dev nD) (ch : Fin 8) (x : S256x4096.Idx) :
    accOf I c ch x = dotAt (I.O c) (I.W c) (own c ch).b ⟨(own c ch).r0 + (x 0).val, by have h : (x 0).val < 256 := (x 0).isLt; have := (own c ch).inb; omega⟩ (x 1)
      + dotAt (I.O (pr c)) (I.W (pr c)) ⟨2 * (ch.val / 2) + yOf c, by have := yOf_lt c; omega⟩
          ⟨256 * (ch.val % 2) + (x 0).val, by have h : (x 0).val < 256 := (x 0).isLt; omega⟩ (x 1) := by
  have h2 : widen 256 (at3 256 (placeC ch) (Grecv I c)) x = Grecv I c ((recvView 256 (placeC ch)).view.emb x) := rfl
  have he : (recvView 256 (placeC ch)).view.emb x = ix3 (d := ![8, 256, 4096]) ch (x 0) (x 1) := by
    rw [recv_emb]
    exact congrArg (fun z => ix3 (d := ![8, 256, 4096]) ch z (x 1)) (Fin.ext (Nat.zero_add _))
  unfold accOf
  refine congrArg₂ (fun a b : EReal => a + b) (prod_at 256 (own c ch) (I.O c) (I.W c) x) ?_
  rw [h2, he]
  exact recv_at I c ch x

/-- Every element of a device's result is its own share and its peer's. -/
theorem Gout_eq (c : Dev nD) (j : S4x512x4096.Idx) : Gout I c j = share I c c (j 0) (j 1) (j 2) + share I c (pr c) (j 0) (j 1) (j 2) := by
  have h0 : (j 0).val < 4 := (j 0).isLt
  have h1 : (j 1).val < 512 := (j 1).isLt
  unfold Gout share
  refine (acc_at I c _ _).trans ?_
  refine congrArg₂ (fun a b : EReal => a + b) (dotAt_congr _ _ ?_ ?_ rfl) (dotAt_congr _ _ ?_ ?_ rfl)
  · show 2 * ((2 * (j 0).val + (j 1).val / 256) / 2) + yOf c = 2 * (j 0).val + yOf c; omega
  · show 256 * ((2 * (j 0).val + (j 1).val / 256) % 2) + (j 1).val % 256 = (j 1).val; omega
  · show 2 * ((2 * (j 0).val + (j 1).val / 256) / 2) + yOf c = 2 * (j 0).val + yOf c; omega
  · show 256 * ((2 * (j 0).val + (j 1).val / 256) % 2) + (j 1).val % 256 = (j 1).val; omega

/-! ## The arguments -/

variable {F : FTy → Type} [FloatOps F] (m : (ℓ : Loc nD τ sig) → Buf (Elt F) ℓ)

/-- The activations as the kernel reads them: block `b` is half `b % 2` of batch `b / 2`. -/
theorem inp_O (c : Dev nD) (b : Fin 8) (r : Fin 512) (h : Fin 16) (e : Fin 128) :
    (inp m).O c (ix4 (d := ![8, 512, 16, 128]) b r h e)
      = m ((c : Thread nD τ).loc main_arg0) (ix4 (d := ![4, 1024, 16, 128]) ⟨b.val / 2, by show _ < 4; omega⟩ ⟨512 * (b.val % 2) + r.val, by show _ < 1024; omega⟩ h e) := by
  have hv : (inp m).O c = shapeCast S8x512x16x128 (m ((c : Thread nD τ).loc main_arg0)) Facts₀.shapeCasts_S4x1024x16x128_S8x512x16x128 := by
    show StableHlo.after Gen.hostOps0 (fun b => m (c, b)) (Proc.devRef .tc main_v2) = _
    after_results
    rfl
  rw [hv]
  refine shapeCast_apply _ _ _ _ ?_
  refine (Shape.rowMajor_val_four (d := ![4, 1024, 16, 128]) _).trans (Eq.trans ?_ (Shape.rowMajor_val_four (d := ![8, 512, 16, 128]) _).symm)
  show ((b.val / 2 * 1024 + (512 * (b.val % 2) + r.val)) * 16 + h.val) * 128 + e.val = ((b.val * 512 + r.val) * 16 + h.val) * 128 + e.val
  have : b.val / 2 * 1024 + (512 * (b.val % 2) + r.val) = b.val * 512 + r.val := by omega
  rw [this]

/-- The weights, rounded. -/
theorem inp_W (c : Dev nD) : (inp m).W c = truncf .bf16 (m ((c : Thread nD τ).loc main_arg1)) Facts₀.bitsLt_bf16_f32 := by
  show StableHlo.after Gen.hostOps0 (fun b => m (c, b)) (Proc.devRef .tc main_v1) = _
  after_results

end Cert.KernelIdeal

end
-- ==== Proof.Match.lean ====
/-
  The reference's result as a sum over all the heads, and that sum as the two shares a device's result is made of.
-/
module

public import proofs.«01_k».proof.Proof.Values
public import proofs.«01_k».proof.Proof.Gen.ReferenceIdeal.Run
public import Idealize.ShloMosaic.Lib.Layout

@[expose] public section

noncomputable section

namespace Cert.Match

open Idealize.ShloMosaic
open Idealize.ShloMosaic.TcCoe Idealize.ShloMosaic.ValueIdx
open Cert.KernelIdeal (share dotAt rowAt Inputs inp yOf yOf_lt yOf_pr pr ix3 ix4 Gout Gout_eq inp_O inp_W)

/-- The whole activations. -/
abbrev Acts : Type := FVec Ideal (⟨4, ![4, 1024, 32, 128]⟩ : Shape) .f32

/-- The whole weights. -/
abbrev Wts : Type := FVec Ideal (⟨2, ![4096, 4096]⟩ : Shape) .f32

/-- Index `k` of the contraction: one activation times one weight. -/
def tm (X : Acts) (Y : Wts) (t : Fin 4) (r : Fin 1024) (n : Fin 4096) (k : Fin 4096) : EReal :=
  (X (ix4 (d := ![4, 1024, 32, 128]) t r ⟨k.val / 128, by have := k.isLt; show _ < 32; omega⟩ ⟨k.val % 128, Nat.mod_lt _ (by decide)⟩) : EReal)
    * (Y (Shape.pair (d := ![4096, 4096]) k n) : EReal)

/-- The reference's result. -/
def refOut (X : Acts) (Y : Wts) : FVec Ideal Cert.ReferenceIdeal.S4x1024x4096 .f32 :=
  Host.dotGeneral Cert.ReferenceIdeal.dot_S4x1024x4096_S4096x4096_S4x1024x4096_2_0_01_1_n_n none
    (shapeCast Cert.ReferenceIdeal.S4x1024x4096 X Cert.ReferenceIdeal.Facts₀.shapeCasts_S4x1024x32x128_S4x1024x4096) Y

/-- The activations with their heads side by side. -/
theorem flat_at (X : Acts) (t : Fin 4) (r : Fin 1024) (k : Fin 4096) :
    shapeCast Cert.ReferenceIdeal.S4x1024x4096 X Cert.ReferenceIdeal.Facts₀.shapeCasts_S4x1024x32x128_S4x1024x4096
        (ix3 (d := ![4, 1024, 4096]) t r k)
      = X (ix4 (d := ![4, 1024, 32, 128]) t r ⟨k.val / 128, by have := k.isLt; show _ < 32; omega⟩ ⟨k.val % 128, Nat.mod_lt _ (by decide)⟩) := by
  refine shapeCast_apply _ _ _ _ ?_
  refine (Shape.rowMajor_val_four (d := ![4, 1024, 32, 128]) _).trans (Eq.trans ?_ (Shape.rowMajor_val_three (d := ![4, 1024, 4096]) _).symm)
  show ((t.val * 1024 + r.val) * 32 + k.val / 128) * 128 + k.val % 128 = (t.val * 1024 + r.val) * 4096 + k.val
  omega

/-- Every element of the reference's result is the sum of its 4096 terms. -/
theorem refOut_at (X : Acts) (Y : Wts) (j : Cert.ReferenceIdeal.S4x1024x4096.Idx) :
    refOut X Y j = ∑ k : Fin 4096, tm X Y (j 0) (j 1) (j 2) k := by
  let D := Cert.ReferenceIdeal.dot_S4x1024x4096_S4096x4096_S4x1024x4096_2_0_01_1_n_n
  show FloatOps.dotGeneral D none _ _ Y j = _
  rw [Ideal.dotGeneral_apply, ← Equiv.sum_comp (contrEquiv1 D 4096 rfl rfl).symm]
  refine Finset.sum_congr rfl fun k _ => ?_
  have hk := contrEquiv1_symm_val D 4096 rfl rfl k
  have hl : D.lhsIdx j ((contrEquiv1 D 4096 rfl rfl).symm k) = ix3 (d := ![4, 1024, 4096]) (j 0) (j 1) k := by
    funext a
    apply Fin.ext
    match a with
    | ⟨0, _⟩ => rfl
    | ⟨1, _⟩ => rfl
    | ⟨2, _⟩ => exact hk
  have hr : D.rhsIdx j ((contrEquiv1 D 4096 rfl rfl).symm k) = Shape.pair (d := ![4096, 4096]) k (j 2) := by
    funext a
    apply Fin.ext
    match a with
    | ⟨0, _⟩ => exact hk
    | ⟨1, _⟩ => rfl
  rw [hl, hr]
  exact congrArg (fun z : EReal => z * (Y (Shape.pair (d := ![4096, 4096]) k (j 2)) : EReal)) (flat_at X (j 0) (j 1) k)

/-! ## The two halves -/

/-- A sum over 4096 indices in two halves. -/
theorem halves (f : Fin 4096 → EReal) :
    ∑ k, f k = (∑ k : Fin 2048, f ⟨2048 * 0 + k.val, by omega⟩) + ∑ k : Fin 2048, f ⟨2048 * 1 + k.val, by omega⟩ := by
  refine (Fin.sum_univ_add (a := 2048) (b := 2048) f).trans ?_
  refine congrArg₂ (fun a b : EReal => a + b) (Finset.sum_congr rfl fun k _ => congrArg f (Fin.ext ?_)) (Finset.sum_congr rfl fun k _ => congrArg f (Fin.ext ?_))
  · show k.val = 2048 * 0 + k.val; omega
  · show 2048 + k.val = 2048 * 1 + k.val; omega

/-- The halves in either order. -/
theorem halves_of (f : Fin 4096 → EReal) (y z : ℕ) (hy : y < 2) (hz : z = 1 - y) :
    ∑ k, f k = (∑ k : Fin 2048, f ⟨2048 * y + k.val, by omega⟩) + ∑ k : Fin 2048, f ⟨2048 * z + k.val, by omega⟩ := by
  obtain h | h : y = 0 ∨ y = 1 := by omega
  · subst h; subst hz; exact halves f
  · subst h; subst hz; exact (halves f).trans (add_comm _ _)

/-! ## A device's parts -/

open Cert.KernelIdeal (nD τ sig main_arg0 main_arg1)

/-- A device's place along the axis the arrays are cut along. -/
theorem place (c : Dev nD) : Layout.meshLin [2, 2, 2] c.val [1] = yOf c := by
  revert c; decide

variable (m : (ℓ : Loc nD τ sig) → Buf (Elt Ideal) ℓ) (X : Acts) (Y : Wts)

/-- Every device holds its half of the heads and the weights' rows that go with them. -/
def Parts : Prop := ∀ c : Dev nD,
  m ((c : Thread nD τ).loc main_arg0) = Layout.blockN ⟨4, ![4, 1024, 16, 128]⟩ ⟨4, ![4, 1024, 32, 128]⟩ (Layout.meshBlock [2, 2, 2] ![[], [], [1], []] c) X
    ∧ m ((c : Thread nD τ).loc main_arg1) = Layout.blockN ⟨2, ![2048, 4096]⟩ ⟨2, ![4096, 4096]⟩ (Layout.meshBlock [2, 2, 2] ![[1], []] c) Y

variable {m X Y}

/-- A device's share of an element: the terms of its half of the contraction. -/
theorem share_eq (h : Parts m X Y) (c e : Dev nD) (t : Fin 4) (r : Fin 512) (n : Fin 4096) :
    share (inp m) c e t r n
      = ∑ k : Fin 2048, tm X Y t ⟨512 * yOf c + r.val, by have := yOf_lt c; omega⟩ n ⟨2048 * yOf e + k.val, by have := yOf_lt e; omega⟩ := by
  have hc := yOf_lt c
  have he := yOf_lt e
  unfold share dotAt
  refine Finset.sum_congr rfl fun k _ => ?_
  have hk := k.isLt
  unfold rowAt tm
  have hO := inp_O m e ⟨2 * t.val + yOf c, by omega⟩ r ⟨k.val / 128, by omega⟩ ⟨k.val % 128, Nat.mod_lt _ (by decide)⟩
  have hW : (inp m).W e (Shape.pair (d := ![2048, 4096]) k n) = m ((e : Thread nD τ).loc main_arg1) (Shape.pair (d := ![2048, 4096]) k n) :=
    congrFun (inp_W m e) _
  refine congrArg₂ (fun a b : EReal => a * b) (hO.trans ((congrFun (h e).1 _).trans (congrArg X ?_))) (hW.trans ((congrFun (h e).2 _).trans (congrArg Y ?_)))
  · funext a
    apply Fin.ext
    match a with
    | ⟨0, _⟩ => show 0 * 4 + (2 * t.val + yOf c) / 2 = t.val; omega
    | ⟨1, _⟩ => show 0 * 1024 + (512 * ((2 * t.val + yOf c) % 2) + r.val) = 512 * yOf c + r.val; omega
    | ⟨2, _⟩ =>
      show Layout.meshLin [2, 2, 2] e.val [1] * 16 + k.val / 128 = (2048 * yOf e + k.val) / 128
      rw [place]; omega
    | ⟨3, _⟩ => show 0 * 128 + k.val % 128 = (2048 * yOf e + k.val) % 128; omega
  · funext a
    apply Fin.ext
    match a with
    | ⟨0, _⟩ =>
      show Layout.meshLin [2, 2, 2] e.val [1] * 2048 + k.val = 2048 * yOf e + k.val
      rw [place]; omega
    | ⟨1, _⟩ => show 0 * 4096 + n.val = n.val; omega

/-- **The result.** Every device's result is its half of the reference's rows. -/
theorem out_eq (h : Parts m X Y) (c : Dev nD) :
    Gout (inp m) c = Layout.blockN ⟨3, ![4, 512, 4096]⟩ ⟨3, ![4, 1024, 4096]⟩ (Layout.meshBlock [2, 2, 2] ![[], [1], []] c) (refOut X Y) := by
  funext j
  have h1 : (j 1).val < 512 := (j 1).isLt
  have hc := yOf_lt c
  have hj : refOut X Y (Layout.TilesN.idx (S := ⟨3, ![4, 512, 4096]⟩) (T := ⟨3, ![4, 1024, 4096]⟩) (by decide) (Layout.meshBlock [2, 2, 2] ![[], [1], []] c) j)
      = ∑ k : Fin 4096, tm X Y (j 0) ⟨512 * yOf c + (j 1).val, by omega⟩ (j 2) k := by
    rw [refOut_at]
    refine Finset.sum_congr rfl fun k _ => ?_
    congr 1
    · exact Fin.ext (show 0 * 4 + (j 0).val = (j 0).val by omega)
    · refine Fin.ext (show Layout.meshLin [2, 2, 2] c.val [1] * 512 + (j 1).val = 512 * yOf c + (j 1).val from ?_)
      rw [place]; omega
    · exact Fin.ext (show 0 * 4096 + (j 2).val = (j 2).val by omega)
  refine (Gout_eq (inp m) c j).trans ?_
  refine Eq.trans ?_ hj.symm
  exact (congrArg₂ (fun a b : EReal => a + b) (share_eq h c c (j 0) (j 1) (j 2)) (share_eq h c (pr c) (j 0) (j 1) (j 2))).trans
    (halves_of _ (yOf c) (yOf (pr c)) hc (yOf_pr c)).symm

end Cert.Match

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Launched
public import proofs.«01_k».proof.Proof.Match
public import Idealize.ShloMosaic.Adequacy
public import Idealize.ShloMosaic.Init

@[expose] public section

noncomputable section

namespace Cert.Proof

open Idealize.ShloMosaic Idealize.SL.Sem Cert.Kernel

/-- For any float values, the kernel runs and restores its arguments and its semaphores. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => ⟨(h.1 c).1, (h.1 c).2.1⟩, h.2⟩)
    (Cert.KernelIdeal.run_main (F := F) m ρ)

/-- The kernel as printed runs and restores its arguments and its semaphores: it is the same text as the ideal one. -/
theorem frame_kernel : Cert.quiescent_Kernel := by
  intro m ρ _
  rw [Cert.Same.tables]
  exact frame_any (F := Bits) m ρ

/-- So does the kernel over the extended reals. -/
theorem frame_ideal : Cert.quiescent_KernelIdeal := fun m ρ _ => frame_any (F := Ideal) m ρ

/-- The reference runs and restores its arguments; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's results are, on every device, its half of the reference's rows. -/
theorem algebraic : Cert.algebraic_KernelIdeal_ReferenceIdeal := fun m ρ m' ρ' _ h =>
  ⟨Cert.Match.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ H c => ⟨(H.1 c).2.2.trans (Cert.Match.out_eq h c), (H.1 c).1, (H.1 c).2.1⟩)
      (Cert.KernelIdeal.run_main (F := Ideal) m ρ),
    (θ_run Cert.ReferenceIdeal.defs _ _).mono (fun _ H => H 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, algebraic⟩

end Cert.Proof

end
